-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S1024x1024 : Shape := ⟨2, ![1024, 1024]⟩
abbrev S32x32x1024 : Shape := ⟨3, ![32, 32, 1024]⟩
abbrev S32 : Shape := ⟨1, ![32]⟩
abbrev S_ : Shape := ⟨0, ![]⟩
abbrev S256x512 : Shape := ⟨2, ![256, 512]⟩
abbrev S256x1 : Shape := ⟨2, ![256, 1]⟩
abbrev S256x1024 : Shape := ⟨2, ![256, 1024]⟩
abbrev S1x512x1024 : Shape := ⟨3, ![1, 512, 1024]⟩
abbrev S512x1024 : Shape := ⟨2, ![512, 1024]⟩
abbrev S1 : Shape := ⟨1, ![1]⟩
abbrev S1x32x1024 : Shape := ⟨3, ![1, 32, 1024]⟩
abbrev S32x1024 : Shape := ⟨2, ![32, 1024]⟩

abbrev nBuf : Space → Nat
  | .hbm => 5
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S512x128, .f32⟩
  | .hbm, ⟨2, _⟩ => ⟨S1024x1, .i32⟩
  | .hbm, ⟨3, _⟩ => ⟨S4x512x1024, .f32⟩
  | .hbm, ⟨4, _⟩ => ⟨S1024x1024, .f32⟩
  | .local _ .vmem, ⟨0, _⟩ => ⟨S1024x512, .f32⟩
  | .local _ .vmem, ⟨1, _⟩ => ⟨S512x128, .f32⟩
  | .local _ .vmem, ⟨2, _⟩ => ⟨S1024x1, .i32⟩
  | .local _ .vmem, ⟨3, _⟩ => ⟨S4x512x1024, .f32⟩
  | .local _ .vmem, ⟨4, _⟩ => ⟨S1024x1024, .f32⟩
  | .local _ .vmem, ⟨5, _⟩ => ⟨S1024x1024, .bf16⟩
  | .local _ .vmem, ⟨6, _⟩ => ⟨S32x32x1024, .bf16⟩
  | .local _ .vmem, ⟨7, _⟩ => ⟨S32x32x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  (ofTc nBuf bufTy 1 101 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_151 : BitVec 32 := 0#32
  let v185 : BitVec 1 := Scalar.cmpi .ne v2 c0_i32_151
  let v186 : BitVec 32 := Scalar.extui v185
  let c0_i32_153 : BitVec 32 := 0#32
  let v187 : BitVec 1 := Scalar.cmpi .ne v186 c0_i32_153
  v187

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev32 : Nat :=
  let c0_i32_1349 : BitVec 32 := 0#32
  let c0_i32_1347 : BitVec 32 := 0#32
  let c1_i32_1348 : BitVec 32 := 1#32
  let v1747 : BitVec 32 := Scalar.muli c0_i32_1347 c1_i32_1348
  let v1748 : BitVec 32 := Scalar.addi c0_i32_1349 v1747
  v1748.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_154 : BitVec 32 := 1#32
  let v188 : BitVec 1 := Scalar.cmpi .ne v2 c1_i32_154
  let v189 : BitVec 32 := Scalar.extui v188
  let c0_i32_156 : BitVec 32 := 0#32
  let v190 : BitVec 1 := Scalar.cmpi .ne v189 c0_i32_156
  v190

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev33 : Nat :=
  let c0_i32_1349 : BitVec 32 := 0#32
  let c1_i32_1347 : BitVec 32 := 1#32
  let c1_i32_1348 : BitVec 32 := 1#32
  let v1747 : BitVec 32 := Scalar.muli c1_i32_1347 c1_i32_1348
  let v1748 : BitVec 32 := Scalar.addi c0_i32_1349 v1747
  v1748.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_157 : BitVec 32 := 2#32
  let v191 : BitVec 1 := Scalar.cmpi .ne v2 c2_i32_157
  let v192 : BitVec 32 := Scalar.extui v191
  let c0_i32_159 : BitVec 32 := 0#32
  let v193 : BitVec 1 := Scalar.cmpi .ne v192 c0_i32_159
  v193

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev34 : Nat :=
  let c0_i32_1349 : BitVec 32 := 0#32
  let c2_i32_1347 : BitVec 32 := 2#32
  let c1_i32_1348 : BitVec 32 := 1#32
  let v1747 : BitVec 32 := Scalar.muli c2_i32_1347 c1_i32_1348
  let v1748 : BitVec 32 := Scalar.addi c0_i32_1349 v1747
  v1748.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_160 : BitVec 32 := 3#32
  let v194 : BitVec 1 := Scalar.cmpi .ne v2 c3_i32_160
  let v195 : BitVec 32 := Scalar.extui v194
  let c0_i32_162 : BitVec 32 := 0#32
  let v196 : BitVec 1 := Scalar.cmpi .ne v195 c0_i32_162
  v196

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev35 : Nat :=
  let c0_i32_1349 : BitVec 32 := 0#32
  let c3_i32_1347 : BitVec 32 := 3#32
  let c1_i32_1348 : BitVec 32 := 1#32
  let v1747 : BitVec 32 := Scalar.muli c3_i32_1347 c1_i32_1348
  let v1748 : BitVec 32 := Scalar.addi c0_i32_1349 v1747
  v1748.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_163 : BitVec 32 := 4#32
  let v197 : BitVec 1 := Scalar.cmpi .ne v2 c4_i32_163
  let v198 : BitVec 32 := Scalar.extui v197
  let c0_i32_165 : BitVec 32 := 0#32
  let v199 : BitVec 1 := Scalar.cmpi .ne v198 c0_i32_165
  v199

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev36 : Nat :=
  let c0_i32_1349 : BitVec 32 := 0#32
  let c4_i32_1347 : BitVec 32 := 4#32
  let c1_i32_1348 : BitVec 32 := 1#32
  let v1747 : BitVec 32 := Scalar.muli c4_i32_1347 c1_i32_1348
  let v1748 : BitVec 32 := Scalar.addi c0_i32_1349 v1747
  v1748.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_166 : BitVec 32 := 5#32
  let v200 : BitVec 1 := Scalar.cmpi .ne v2 c5_i32_166
  let v201 : BitVec 32 := Scalar.extui v200
  let c0_i32_168 : BitVec 32 := 0#32
  let v202 : BitVec 1 := Scalar.cmpi .ne v201 c0_i32_168
  v202

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev37 : Nat :=
  let c0_i32_1349 : BitVec 32 := 0#32
  let c5_i32_1347 : BitVec 32 := 5#32
  let c1_i32_1348 : BitVec 32 := 1#32
  let v1747 : BitVec 32 := Scalar.muli c5_i32_1347 c1_i32_1348
  let v1748 : BitVec 32 := Scalar.addi c0_i32_1349 v1747
  v1748.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_169 : BitVec 32 := 6#32
  let v203 : BitVec 1 := Scalar.cmpi .ne v2 c6_i32_169
  let v204 : BitVec 32 := Scalar.extui v203
  let c0_i32_171 : BitVec 32 := 0#32
  let v205 : BitVec 1 := Scalar.cmpi .ne v204 c0_i32_171
  v205

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev38 : Nat :=
  let c0_i32_1349 : BitVec 32 := 0#32
  let c6_i32_1347 : BitVec 32 := 6#32
  let c1_i32_1348 : BitVec 32 := 1#32
  let v1747 : BitVec 32 := Scalar.muli c6_i32_1347 c1_i32_1348
  let v1748 : BitVec 32 := Scalar.addi c0_i32_1349 v1747
  v1748.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_172 : BitVec 32 := 7#32
  let v206 : BitVec 1 := Scalar.cmpi .ne v2 c7_i32_172
  let v207 : BitVec 32 := Scalar.extui v206
  let c0_i32_174 : BitVec 32 := 0#32
  let v208 : BitVec 1 := Scalar.cmpi .ne v207 c0_i32_174
  v208

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev39 : Nat :=
  let c0_i32_1349 : BitVec 32 := 0#32
  let c7_i32_1347 : BitVec 32 := 7#32
  let c1_i32_1348 : BitVec 32 := 1#32
  let v1747 : BitVec 32 := Scalar.muli c7_i32_1347 c1_i32_1348
  let v1748 : BitVec 32 := Scalar.addi c0_i32_1349 v1747
  v1748.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_205 : BitVec 32 := 8#32
  let v266 : BitVec 1 := Scalar.cmpi .ne v2 c8_i32_205
  let v267 : BitVec 32 := Scalar.extui v266
  let c0_i32_207 : BitVec 32 := 0#32
  let v268 : BitVec 1 := Scalar.cmpi .ne v267 c0_i32_207
  v268

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev40 : Nat :=
  let c0_i32_1349 : BitVec 32 := 0#32
  let c8_i32_1347 : BitVec 32 := 8#32
  let c1_i32_1348 : BitVec 32 := 1#32
  let v1747 : BitVec 32 := Scalar.muli c8_i32_1347 c1_i32_1348
  let v1748 : BitVec 32 := Scalar.addi c0_i32_1349 v1747
  v1748.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_208 : BitVec 32 := 9#32
  let v269 : BitVec 1 := Scalar.cmpi .ne v2 c9_i32_208
  let v270 : BitVec 32 := Scalar.extui v269
  let c0_i32_210 : BitVec 32 := 0#32
  let v271 : BitVec 1 := Scalar.cmpi .ne v270 c0_i32_210
  v271

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev41 : Nat :=
  let c0_i32_1349 : BitVec 32 := 0#32
  let c9_i32_1347 : BitVec 32 := 9#32
  let c1_i32_1348 : BitVec 32 := 1#32
  let v1747 : BitVec 32 := Scalar.muli c9_i32_1347 c1_i32_1348
  let v1748 : BitVec 32 := Scalar.addi c0_i32_1349 v1747
  v1748.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_211 : BitVec 32 := 10#32
  let v272 : BitVec 1 := Scalar.cmpi .ne v2 c10_i32_211
  let v273 : BitVec 32 := Scalar.extui v272
  let c0_i32_213 : BitVec 32 := 0#32
  let v274 : BitVec 1 := Scalar.cmpi .ne v273 c0_i32_213
  v274

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev42 : Nat :=
  let c0_i32_1349 : BitVec 32 := 0#32
  let c10_i32_1347 : BitVec 32 := 10#32
  let c1_i32_1348 : BitVec 32 := 1#32
  let v1747 : BitVec 32 := Scalar.muli c10_i32_1347 c1_i32_1348
  let v1748 : BitVec 32 := Scalar.addi c0_i32_1349 v1747
  v1748.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_214 : BitVec 32 := 11#32
  let v275 : BitVec 1 := Scalar.cmpi .ne v2 c11_i32_214
  let v276 : BitVec 32 := Scalar.extui v275
  let c0_i32_216 : BitVec 32 := 0#32
  let v277 : BitVec 1 := Scalar.cmpi .ne v276 c0_i32_216
  v277

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev43 : Nat :=
  let c0_i32_1349 : BitVec 32 := 0#32
  let c11_i32_1347 : BitVec 32 := 11#32
  let c1_i32_1348 : BitVec 32 := 1#32
  let v1747 : BitVec 32 := Scalar.muli c11_i32_1347 c1_i32_1348
  let v1748 : BitVec 32 := Scalar.addi c0_i32_1349 v1747
  v1748.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_217 : BitVec 32 := 12#32
  let v278 : BitVec 1 := Scalar.cmpi .ne v2 c12_i32_217
  let v279 : BitVec 32 := Scalar.extui v278
  let c0_i32_219 : BitVec 32 := 0#32
  let v280 : BitVec 1 := Scalar.cmpi .ne v279 c0_i32_219
  v280

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev44 : Nat :=
  let c0_i32_1349 : BitVec 32 := 0#32
  let c12_i32_1347 : BitVec 32 := 12#32
  let c1_i32_1348 : BitVec 32 := 1#32
  let v1747 : BitVec 32 := Scalar.muli c12_i32_1347 c1_i32_1348
  let v1748 : BitVec 32 := Scalar.addi c0_i32_1349 v1747
  v1748.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_220 : BitVec 32 := 13#32
  let v281 : BitVec 1 := Scalar.cmpi .ne v2 c13_i32_220
  let v282 : BitVec 32 := Scalar.extui v281
  let c0_i32_222 : BitVec 32 := 0#32
  let v283 : BitVec 1 := Scalar.cmpi .ne v282 c0_i32_222
  v283

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev45 : Nat :=
  let c0_i32_1349 : BitVec 32 := 0#32
  let c13_i32_1347 : BitVec 32 := 13#32
  let c1_i32_1348 : BitVec 32 := 1#32
  let v1747 : BitVec 32 := Scalar.muli c13_i32_1347 c1_i32_1348
  let v1748 : BitVec 32 := Scalar.addi c0_i32_1349 v1747
  v1748.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_223 : BitVec 32 := 14#32
  let v284 : BitVec 1 := Scalar.cmpi .ne v2 c14_i32_223
  let v285 : BitVec 32 := Scalar.extui v284
  let c0_i32_225 : BitVec 32 := 0#32
  let v286 : BitVec 1 := Scalar.cmpi .ne v285 c0_i32_225
  v286

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev46 : Nat :=
  let c0_i32_1349 : BitVec 32 := 0#32
  let c14_i32_1347 : BitVec 32 := 14#32
  let c1_i32_1348 : BitVec 32 := 1#32
  let v1747 : BitVec 32 := Scalar.muli c14_i32_1347 c1_i32_1348
  let v1748 : BitVec 32 := Scalar.addi c0_i32_1349 v1747
  v1748.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_226 : BitVec 32 := 15#32
  let v287 : BitVec 1 := Scalar.cmpi .ne v2 c15_i32_226
  let v288 : BitVec 32 := Scalar.extui v287
  let c0_i32_228 : BitVec 32 := 0#32
  let v289 : BitVec 1 := Scalar.cmpi .ne v288 c0_i32_228
  v289

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev47 : Nat :=
  let c0_i32_1349 : BitVec 32 := 0#32
  let c15_i32_1347 : BitVec 32 := 15#32
  let c1_i32_1348 : BitVec 32 := 1#32
  let v1747 : BitVec 32 := Scalar.muli c15_i32_1347 c1_i32_1348
  let v1748 : BitVec 32 := Scalar.addi c0_i32_1349 v1747
  v1748.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_259 : BitVec 32 := 16#32
  let v347 : BitVec 1 := Scalar.cmpi .ne v2 c16_i32_259
  let v348 : BitVec 32 := Scalar.extui v347
  let c0_i32_261 : BitVec 32 := 0#32
  let v349 : BitVec 1 := Scalar.cmpi .ne v348 c0_i32_261
  v349

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev48 : Nat :=
  let c0_i32_1349 : BitVec 32 := 0#32
  let c16_i32_1347 : BitVec 32 := 16#32
  let c1_i32_1348 : BitVec 32 := 1#32
  let v1747 : BitVec 32 := Scalar.muli c16_i32_1347 c1_i32_1348
  let v1748 : BitVec 32 := Scalar.addi c0_i32_1349 v1747
  v1748.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_262 : BitVec 32 := 17#32
  let v350 : BitVec 1 := Scalar.cmpi .ne v2 c17_i32_262
  let v351 : BitVec 32 := Scalar.extui v350
  let c0_i32_264 : BitVec 32 := 0#32
  let v352 : BitVec 1 := Scalar.cmpi .ne v351 c0_i32_264
  v352

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev49 : Nat :=
  let c0_i32_1349 : BitVec 32 := 0#32
  let c17_i32_1347 : BitVec 32 := 17#32
  let c1_i32_1348 : BitVec 32 := 1#32
  let v1747 : BitVec 32 := Scalar.muli c17_i32_1347 c1_i32_1348
  let v1748 : BitVec 32 := Scalar.addi c0_i32_1349 v1747
  v1748.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_265 : BitVec 32 := 18#32
  let v353 : BitVec 1 := Scalar.cmpi .ne v2 c18_i32_265
  let v354 : BitVec 32 := Scalar.extui v353
  let c0_i32_267 : BitVec 32 := 0#32
  let v355 : BitVec 1 := Scalar.cmpi .ne v354 c0_i32_267
  v355

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev50 : Nat :=
  let c0_i32_1349 : BitVec 32 := 0#32
  let c18_i32_1347 : BitVec 32 := 18#32
  let c1_i32_1348 : BitVec 32 := 1#32
  let v1747 : BitVec 32 := Scalar.muli c18_i32_1347 c1_i32_1348
  let v1748 : BitVec 32 := Scalar.addi c0_i32_1349 v1747
  v1748.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_268 : BitVec 32 := 19#32
  let v356 : BitVec 1 := Scalar.cmpi .ne v2 c19_i32_268
  let v357 : BitVec 32 := Scalar.extui v356
  let c0_i32_270 : BitVec 32 := 0#32
  let v358 : BitVec 1 := Scalar.cmpi .ne v357 c0_i32_270
  v358

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev51 : Nat :=
  let c0_i32_1349 : BitVec 32 := 0#32
  let c19_i32_1347 : BitVec 32 := 19#32
  let c1_i32_1348 : BitVec 32 := 1#32
  let v1747 : BitVec 32 := Scalar.muli c19_i32_1347 c1_i32_1348
  let v1748 : BitVec 32 := Scalar.addi c0_i32_1349 v1747
  v1748.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_271 : BitVec 32 := 20#32
  let v359 : BitVec 1 := Scalar.cmpi .ne v2 c20_i32_271
  let v360 : BitVec 32 := Scalar.extui v359
  let c0_i32_273 : BitVec 32 := 0#32
  let v361 : BitVec 1 := Scalar.cmpi .ne v360 c0_i32_273
  v361

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev52 : Nat :=
  let c0_i32_1349 : BitVec 32 := 0#32
  let c20_i32_1347 : BitVec 32 := 20#32
  let c1_i32_1348 : BitVec 32 := 1#32
  let v1747 : BitVec 32 := Scalar.muli c20_i32_1347 c1_i32_1348
  let v1748 : BitVec 32 := Scalar.addi c0_i32_1349 v1747
  v1748.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_274 : BitVec 32 := 21#32
  let v362 : BitVec 1 := Scalar.cmpi .ne v2 c21_i32_274
  let v363 : BitVec 32 := Scalar.extui v362
  let c0_i32_276 : BitVec 32 := 0#32
  let v364 : BitVec 1 := Scalar.cmpi .ne v363 c0_i32_276
  v364

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev53 : Nat :=
  let c0_i32_1349 : BitVec 32 := 0#32
  let c21_i32_1347 : BitVec 32 := 21#32
  let c1_i32_1348 : BitVec 32 := 1#32
  let v1747 : BitVec 32 := Scalar.muli c21_i32_1347 c1_i32_1348
  let v1748 : BitVec 32 := Scalar.addi c0_i32_1349 v1747
  v1748.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_277 : BitVec 32 := 22#32
  let v365 : BitVec 1 := Scalar.cmpi .ne v2 c22_i32_277
  let v366 : BitVec 32 := Scalar.extui v365
  let c0_i32_279 : BitVec 32 := 0#32
  let v367 : BitVec 1 := Scalar.cmpi .ne v366 c0_i32_279
  v367

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev54 : Nat :=
  let c0_i32_1349 : BitVec 32 := 0#32
  let c22_i32_1347 : BitVec 32 := 22#32
  let c1_i32_1348 : BitVec 32 := 1#32
  let v1747 : BitVec 32 := Scalar.muli c22_i32_1347 c1_i32_1348
  let v1748 : BitVec 32 := Scalar.addi c0_i32_1349 v1747
  v1748.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_280 : BitVec 32 := 23#32
  let v368 : BitVec 1 := Scalar.cmpi .ne v2 c23_i32_280
  let v369 : BitVec 32 := Scalar.extui v368
  let c0_i32_282 : BitVec 32 := 0#32
  let v370 : BitVec 1 := Scalar.cmpi .ne v369 c0_i32_282
  v370

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev55 : Nat :=
  let c0_i32_1349 : BitVec 32 := 0#32
  let c23_i32_1347 : BitVec 32 := 23#32
  let c1_i32_1348 : BitVec 32 := 1#32
  let v1747 : BitVec 32 := Scalar.muli c23_i32_1347 c1_i32_1348
  let v1748 : BitVec 32 := Scalar.addi c0_i32_1349 v1747
  v1748.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_313 : BitVec 32 := 24#32
  let v428 : BitVec 1 := Scalar.cmpi .ne v2 c24_i32_313
  let v429 : BitVec 32 := Scalar.extui v428
  let c0_i32_315 : BitVec 32 := 0#32
  let v430 : BitVec 1 := Scalar.cmpi .ne v429 c0_i32_315
  v430

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev56 : Nat :=
  let c0_i32_1349 : BitVec 32 := 0#32
  let c24_i32_1347 : BitVec 32 := 24#32
  let c1_i32_1348 : BitVec 32 := 1#32
  let v1747 : BitVec 32 := Scalar.muli c24_i32_1347 c1_i32_1348
  let v1748 : BitVec 32 := Scalar.addi c0_i32_1349 v1747
  v1748.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_316 : BitVec 32 := 25#32
  let v431 : BitVec 1 := Scalar.cmpi .ne v2 c25_i32_316
  let v432 : BitVec 32 := Scalar.extui v431
  let c0_i32_318 : BitVec 32 := 0#32
  let v433 : BitVec 1 := Scalar.cmpi .ne v432 c0_i32_318
  v433

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev57 : Nat :=
  let c0_i32_1349 : BitVec 32 := 0#32
  let c25_i32_1347 : BitVec 32 := 25#32
  let c1_i32_1348 : BitVec 32 := 1#32
  let v1747 : BitVec 32 := Scalar.muli c25_i32_1347 c1_i32_1348
  let v1748 : BitVec 32 := Scalar.addi c0_i32_1349 v1747
  v1748.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_319 : BitVec 32 := 26#32
  let v434 : BitVec 1 := Scalar.cmpi .ne v2 c26_i32_319
  let v435 : BitVec 32 := Scalar.extui v434
  let c0_i32_321 : BitVec 32 := 0#32
  let v436 : BitVec 1 := Scalar.cmpi .ne v435 c0_i32_321
  v436

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev58 : Nat :=
  let c0_i32_1349 : BitVec 32 := 0#32
  let c26_i32_1347 : BitVec 32 := 26#32
  let c1_i32_1348 : BitVec 32 := 1#32
  let v1747 : BitVec 32 := Scalar.muli c26_i32_1347 c1_i32_1348
  let v1748 : BitVec 32 := Scalar.addi c0_i32_1349 v1747
  v1748.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_322 : BitVec 32 := 27#32
  let v437 : BitVec 1 := Scalar.cmpi .ne v2 c27_i32_322
  let v438 : BitVec 32 := Scalar.extui v437
  let c0_i32_324 : BitVec 32 := 0#32
  let v439 : BitVec 1 := Scalar.cmpi .ne v438 c0_i32_324
  v439

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev59 : Nat :=
  let c0_i32_1349 : BitVec 32 := 0#32
  let c27_i32_1347 : BitVec 32 := 27#32
  let c1_i32_1348 : BitVec 32 := 1#32
  let v1747 : BitVec 32 := Scalar.muli c27_i32_1347 c1_i32_1348
  let v1748 : BitVec 32 := Scalar.addi c0_i32_1349 v1747
  v1748.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_325 : BitVec 32 := 28#32
  let v440 : BitVec 1 := Scalar.cmpi .ne v2 c28_i32_325
  let v441 : BitVec 32 := Scalar.extui v440
  let c0_i32_327 : BitVec 32 := 0#32
  let v442 : BitVec 1 := Scalar.cmpi .ne v441 c0_i32_327
  v442

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev60 : Nat :=
  let c0_i32_1349 : BitVec 32 := 0#32
  let c28_i32_1347 : BitVec 32 := 28#32
  let c1_i32_1348 : BitVec 32 := 1#32
  let v1747 : BitVec 32 := Scalar.muli c28_i32_1347 c1_i32_1348
  let v1748 : BitVec 32 := Scalar.addi c0_i32_1349 v1747
  v1748.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_328 : BitVec 32 := 29#32
  let v443 : BitVec 1 := Scalar.cmpi .ne v2 c29_i32_328
  let v444 : BitVec 32 := Scalar.extui v443
  let c0_i32_330 : BitVec 32 := 0#32
  let v445 : BitVec 1 := Scalar.cmpi .ne v444 c0_i32_330
  v445

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev61 : Nat :=
  let c0_i32_1349 : BitVec 32 := 0#32
  let c29_i32_1347 : BitVec 32 := 29#32
  let c1_i32_1348 : BitVec 32 := 1#32
  let v1747 : BitVec 32 := Scalar.muli c29_i32_1347 c1_i32_1348
  let v1748 : BitVec 32 := Scalar.addi c0_i32_1349 v1747
  v1748.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_331 : BitVec 32 := 30#32
  let v446 : BitVec 1 := Scalar.cmpi .ne v2 c30_i32_331
  let v447 : BitVec 32 := Scalar.extui v446
  let c0_i32_333 : BitVec 32 := 0#32
  let v448 : BitVec 1 := Scalar.cmpi .ne v447 c0_i32_333
  v448

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev62 : Nat :=
  let c0_i32_1349 : BitVec 32 := 0#32
  let c30_i32_1347 : BitVec 32 := 30#32
  let c1_i32_1348 : BitVec 32 := 1#32
  let v1747 : BitVec 32 := Scalar.muli c30_i32_1347 c1_i32_1348
  let v1748 : BitVec 32 := Scalar.addi c0_i32_1349 v1747
  v1748.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_334 : BitVec 32 := 31#32
  let v449 : BitVec 1 := Scalar.cmpi .ne v2 c31_i32_334
  let v450 : BitVec 32 := Scalar.extui v449
  let c0_i32_336 : BitVec 32 := 0#32
  let v451 : BitVec 1 := Scalar.cmpi .ne v450 c0_i32_336
  v451

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_dev63 : Nat :=
  let c0_i32_1349 : BitVec 32 := 0#32
  let c31_i32_1347 : BitVec 32 := 31#32
  let c1_i32_1348 : BitVec 32 := 1#32
  let v1747 : BitVec 32 := Scalar.muli c31_i32_1347 c1_i32_1348
  let v1748 : BitVec 32 := Scalar.addi c0_i32_1349 v1747
  v1748.toNat
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_337 : BitVec 32 := 32#32
  let v452 : BitVec 32 := Scalar.muli v2 c32_i32_337
  let v453 : Index := Scalar.indexCast v452
  let c0_338 : Index := 0#32
  ![v453.toNat, 0]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v456 : Index := Scalar.indexCast v2
  let c0_339 : Index := 0#32
  let c0_340 : Index := 0#32
  ![v456.toNat, 0, 0]
def k0_off67 (d0 : Dev nD) (c1_i32_341 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v460 : BitVec 32 := Scalar.addi v2 c1_i32_341
  let c32_i32_342 : BitVec 32 := 32#32
  let v461 : BitVec 32 := Scalar.remsi v460 c32_i32_342
  ![v461.toNat]
def k0_off68 (d0 : Dev nD) (c1_i32_341 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v460 : BitVec 32 := Scalar.addi v2 c1_i32_341
  let c32_i32_342 : BitVec 32 := 32#32
  let v461 : BitVec 32 := Scalar.remsi v460 c32_i32_342
  let c0_i32_345 : BitVec 32 := 0#32
  let c0_i32_346 : BitVec 32 := 0#32
  ![v461.toNat, 0, 0]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_595 : BitVec 32 := 0#32
  let v779 : BitVec 1 := Scalar.cmpi .ne v2 c0_i32_595
  let v780 : BitVec 32 := Scalar.extui v779
  let c0_i32_597 : BitVec 32 := 0#32
  let v781 : BitVec 1 := Scalar.cmpi .ne v780 c0_i32_597
  v781

def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1351 : BitVec 32 := 0#32
  let c0_i32_1352 : BitVec 32 := 0#32
  ![v2.toNat, 0, 0]
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_598 : BitVec 32 := 1#32
  let v782 : BitVec 1 := Scalar.cmpi .ne v2 c1_i32_598
  let v783 : BitVec 32 := Scalar.extui v782
  let c0_i32_600 : BitVec 32 := 0#32
  let v784 : BitVec 1 := Scalar.cmpi .ne v783 c0_i32_600
  v784

def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1351 : BitVec 32 := 0#32
  let c0_i32_1352 : BitVec 32 := 0#32
  ![v2.toNat, 0, 0]
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_601 : BitVec 32 := 2#32
  let v785 : BitVec 1 := Scalar.cmpi .ne v2 c2_i32_601
  let v786 : BitVec 32 := Scalar.extui v785
  let c0_i32_603 : BitVec 32 := 0#32
  let v787 : BitVec 1 := Scalar.cmpi .ne v786 c0_i32_603
  v787

def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_604 : BitVec 32 := 3#32
  let v788 : BitVec 1 := Scalar.cmpi .ne v2 c3_i32_604
  let v789 : BitVec 32 := Scalar.extui v788
  let c0_i32_606 : BitVec 32 := 0#32
  let v790 : BitVec 1 := Scalar.cmpi .ne v789 c0_i32_606
  v790

def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_607 : BitVec 32 := 4#32
  let v791 : BitVec 1 := Scalar.cmpi .ne v2 c4_i32_607
  let v792 : BitVec 32 := Scalar.extui v791
  let c0_i32_609 : BitVec 32 := 0#32
  let v793 : BitVec 1 := Scalar.cmpi .ne v792 c0_i32_609
  v793

def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_610 : BitVec 32 := 5#32
  let v794 : BitVec 1 := Scalar.cmpi .ne v2 c5_i32_610
  let v795 : BitVec 32 := Scalar.extui v794
  let c0_i32_612 : BitVec 32 := 0#32
  let v796 : BitVec 1 := Scalar.cmpi .ne v795 c0_i32_612
  v796

def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_613 : BitVec 32 := 6#32
  let v797 : BitVec 1 := Scalar.cmpi .ne v2 c6_i32_613
  let v798 : BitVec 32 := Scalar.extui v797
  let c0_i32_615 : BitVec 32 := 0#32
  let v799 : BitVec 1 := Scalar.cmpi .ne v798 c0_i32_615
  v799

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_616 : BitVec 32 := 7#32
  let v800 : BitVec 1 := Scalar.cmpi .ne v2 c7_i32_616
  let v801 : BitVec 32 := Scalar.extui v800
  let c0_i32_618 : BitVec 32 := 0#32
  let v802 : BitVec 1 := Scalar.cmpi .ne v801 c0_i32_618
  v802

def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_619 : BitVec 32 := 8#32
  let v803 : BitVec 1 := Scalar.cmpi .ne v2 c8_i32_619
  let v804 : BitVec 32 := Scalar.extui v803
  let c0_i32_621 : BitVec 32 := 0#32
  let v805 : BitVec 1 := Scalar.cmpi .ne v804 c0_i32_621
  v805

def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_622 : BitVec 32 := 9#32
  let v806 : BitVec 1 := Scalar.cmpi .ne v2 c9_i32_622
  let v807 : BitVec 32 := Scalar.extui v806
  let c0_i32_624 : BitVec 32 := 0#32
  let v808 : BitVec 1 := Scalar.cmpi .ne v807 c0_i32_624
  v808

def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_625 : BitVec 32 := 10#32
  let v809 : BitVec 1 := Scalar.cmpi .ne v2 c10_i32_625
  let v810 : BitVec 32 := Scalar.extui v809
  let c0_i32_627 : BitVec 32 := 0#32
  let v811 : BitVec 1 := Scalar.cmpi .ne v810 c0_i32_627
  v811

def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_628 : BitVec 32 := 11#32
  let v812 : BitVec 1 := Scalar.cmpi .ne v2 c11_i32_628
  let v813 : BitVec 32 := Scalar.extui v812
  let c0_i32_630 : BitVec 32 := 0#32
  let v814 : BitVec 1 := Scalar.cmpi .ne v813 c0_i32_630
  v814

def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_631 : BitVec 32 := 12#32
  let v815 : BitVec 1 := Scalar.cmpi .ne v2 c12_i32_631
  let v816 : BitVec 32 := Scalar.extui v815
  let c0_i32_633 : BitVec 32 := 0#32
  let v817 : BitVec 1 := Scalar.cmpi .ne v816 c0_i32_633
  v817

def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_634 : BitVec 32 := 13#32
  let v818 : BitVec 1 := Scalar.cmpi .ne v2 c13_i32_634
  let v819 : BitVec 32 := Scalar.extui v818
  let c0_i32_636 : BitVec 32 := 0#32
  let v820 : BitVec 1 := Scalar.cmpi .ne v819 c0_i32_636
  v820

def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_637 : BitVec 32 := 14#32
  let v821 : BitVec 1 := Scalar.cmpi .ne v2 c14_i32_637
  let v822 : BitVec 32 := Scalar.extui v821
  let c0_i32_639 : BitVec 32 := 0#32
  let v823 : BitVec 1 := Scalar.cmpi .ne v822 c0_i32_639
  v823

def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_640 : BitVec 32 := 15#32
  let v824 : BitVec 1 := Scalar.cmpi .ne v2 c15_i32_640
  let v825 : BitVec 32 := Scalar.extui v824
  let c0_i32_642 : BitVec 32 := 0#32
  let v826 : BitVec 1 := Scalar.cmpi .ne v825 c0_i32_642
  v826

def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_643 : BitVec 32 := 16#32
  let v827 : BitVec 1 := Scalar.cmpi .ne v2 c16_i32_643
  let v828 : BitVec 32 := Scalar.extui v827
  let c0_i32_645 : BitVec 32 := 0#32
  let v829 : BitVec 1 := Scalar.cmpi .ne v828 c0_i32_645
  v829

def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_646 : BitVec 32 := 17#32
  let v830 : BitVec 1 := Scalar.cmpi .ne v2 c17_i32_646
  let v831 : BitVec 32 := Scalar.extui v830
  let c0_i32_648 : BitVec 32 := 0#32
  let v832 : BitVec 1 := Scalar.cmpi .ne v831 c0_i32_648
  v832

def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_649 : BitVec 32 := 18#32
  let v833 : BitVec 1 := Scalar.cmpi .ne v2 c18_i32_649
  let v834 : BitVec 32 := Scalar.extui v833
  let c0_i32_651 : BitVec 32 := 0#32
  let v835 : BitVec 1 := Scalar.cmpi .ne v834 c0_i32_651
  v835

def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_652 : BitVec 32 := 19#32
  let v836 : BitVec 1 := Scalar.cmpi .ne v2 c19_i32_652
  let v837 : BitVec 32 := Scalar.extui v836
  let c0_i32_654 : BitVec 32 := 0#32
  let v838 : BitVec 1 := Scalar.cmpi .ne v837 c0_i32_654
  v838

def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_655 : BitVec 32 := 20#32
  let v839 : BitVec 1 := Scalar.cmpi .ne v2 c20_i32_655
  let v840 : BitVec 32 := Scalar.extui v839
  let c0_i32_657 : BitVec 32 := 0#32
  let v841 : BitVec 1 := Scalar.cmpi .ne v840 c0_i32_657
  v841

def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_658 : BitVec 32 := 21#32
  let v842 : BitVec 1 := Scalar.cmpi .ne v2 c21_i32_658
  let v843 : BitVec 32 := Scalar.extui v842
  let c0_i32_660 : BitVec 32 := 0#32
  let v844 : BitVec 1 := Scalar.cmpi .ne v843 c0_i32_660
  v844

def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_661 : BitVec 32 := 22#32
  let v845 : BitVec 1 := Scalar.cmpi .ne v2 c22_i32_661
  let v846 : BitVec 32 := Scalar.extui v845
  let c0_i32_663 : BitVec 32 := 0#32
  let v847 : BitVec 1 := Scalar.cmpi .ne v846 c0_i32_663
  v847

def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_664 : BitVec 32 := 23#32
  let v848 : BitVec 1 := Scalar.cmpi .ne v2 c23_i32_664
  let v849 : BitVec 32 := Scalar.extui v848
  let c0_i32_666 : BitVec 32 := 0#32
  let v850 : BitVec 1 := Scalar.cmpi .ne v849 c0_i32_666
  v850

def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_667 : BitVec 32 := 24#32
  let v851 : BitVec 1 := Scalar.cmpi .ne v2 c24_i32_667
  let v852 : BitVec 32 := Scalar.extui v851
  let c0_i32_669 : BitVec 32 := 0#32
  let v853 : BitVec 1 := Scalar.cmpi .ne v852 c0_i32_669
  v853

def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_670 : BitVec 32 := 25#32
  let v854 : BitVec 1 := Scalar.cmpi .ne v2 c25_i32_670
  let v855 : BitVec 32 := Scalar.extui v854
  let c0_i32_672 : BitVec 32 := 0#32
  let v856 : BitVec 1 := Scalar.cmpi .ne v855 c0_i32_672
  v856

def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_673 : BitVec 32 := 26#32
  let v857 : BitVec 1 := Scalar.cmpi .ne v2 c26_i32_673
  let v858 : BitVec 32 := Scalar.extui v857
  let c0_i32_675 : BitVec 32 := 0#32
  let v859 : BitVec 1 := Scalar.cmpi .ne v858 c0_i32_675
  v859

def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_676 : BitVec 32 := 27#32
  let v860 : BitVec 1 := Scalar.cmpi .ne v2 c27_i32_676
  let v861 : BitVec 32 := Scalar.extui v860
  let c0_i32_678 : BitVec 32 := 0#32
  let v862 : BitVec 1 := Scalar.cmpi .ne v861 c0_i32_678
  v862

def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_679 : BitVec 32 := 28#32
  let v863 : BitVec 1 := Scalar.cmpi .ne v2 c28_i32_679
  let v864 : BitVec 32 := Scalar.extui v863
  let c0_i32_681 : BitVec 32 := 0#32
  let v865 : BitVec 1 := Scalar.cmpi .ne v864 c0_i32_681
  v865

def k0_off97 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_682 : BitVec 32 := 29#32
  let v866 : BitVec 1 := Scalar.cmpi .ne v2 c29_i32_682
  let v867 : BitVec 32 := Scalar.extui v866
  let c0_i32_684 : BitVec 32 := 0#32
  let v868 : BitVec 1 := Scalar.cmpi .ne v867 c0_i32_684
  v868

def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_685 : BitVec 32 := 30#32
  let v869 : BitVec 1 := Scalar.cmpi .ne v2 c30_i32_685
  let v870 : BitVec 32 := Scalar.extui v869
  let c0_i32_687 : BitVec 32 := 0#32
  let v871 : BitVec 1 := Scalar.cmpi .ne v870 c0_i32_687
  v871

def k0_off99 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_688 : BitVec 32 := 31#32
  let v872 : BitVec 1 := Scalar.cmpi .ne v2 c31_i32_688
  let v873 : BitVec 32 := Scalar.extui v872
  let c0_i32_690 : BitVec 32 := 0#32
  let v874 : BitVec 1 := Scalar.cmpi .ne v873 c0_i32_690
  v874

def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1350 : BitVec 32 := 0#32
  let c0_i32_1351 : BitVec 32 := 0#32
  ![v2.toNat, 0, 0]
def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_695 : BitVec 32 := 0#32
  let c0_i32_696 : BitVec 32 := 0#32
  ![v2.toNat, 0, 0]
def k0_dev64 (d0 : Dev nD) : Nat :=
  let c0_i32_694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_691 : BitVec 32 := 1#32
  let v875 : BitVec 32 := Scalar.addi v2 c1_i32_691
  let c32_i32_692 : BitVec 32 := 32#32
  let v876 : BitVec 32 := Scalar.remsi v875 c32_i32_692
  let c1_i32_693 : BitVec 32 := 1#32
  let v877 : BitVec 32 := Scalar.muli v876 c1_i32_693
  let v878 : BitVec 32 := Scalar.addi c0_i32_694 v877
  v878.toNat
def k0_dev65 (d0 : Dev nD) : Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_699 : BitVec 32 := 2#32
  let v887 : BitVec 32 := Scalar.addi v2 c2_i32_699
  let c32_i32_700 : BitVec 32 := 32#32
  let v888 : BitVec 32 := Scalar.remsi v887 c32_i32_700
  let c1_i32_701 : BitVec 32 := 1#32
  let v889 : BitVec 32 := Scalar.muli v888 c1_i32_701
  let v890 : BitVec 32 := Scalar.addi c0_i32_702 v889
  v890.toNat
def k0_dev66 (d0 : Dev nD) : Nat :=
  let c0_i32_710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_707 : BitVec 32 := 3#32
  let v899 : BitVec 32 := Scalar.addi v2 c3_i32_707
  let c32_i32_708 : BitVec 32 := 32#32
  let v900 : BitVec 32 := Scalar.remsi v899 c32_i32_708
  let c1_i32_709 : BitVec 32 := 1#32
  let v901 : BitVec 32 := Scalar.muli v900 c1_i32_709
  let v902 : BitVec 32 := Scalar.addi c0_i32_710 v901
  v902.toNat
def k0_dev67 (d0 : Dev nD) : Nat :=
  let c0_i32_718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_715 : BitVec 32 := 4#32
  let v911 : BitVec 32 := Scalar.addi v2 c4_i32_715
  let c32_i32_716 : BitVec 32 := 32#32
  let v912 : BitVec 32 := Scalar.remsi v911 c32_i32_716
  let c1_i32_717 : BitVec 32 := 1#32
  let v913 : BitVec 32 := Scalar.muli v912 c1_i32_717
  let v914 : BitVec 32 := Scalar.addi c0_i32_718 v913
  v914.toNat
def k0_dev68 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_723 : BitVec 32 := 5#32
  let v923 : BitVec 32 := Scalar.addi v2 c5_i32_723
  let c32_i32_724 : BitVec 32 := 32#32
  let v924 : BitVec 32 := Scalar.remsi v923 c32_i32_724
  let c1_i32_725 : BitVec 32 := 1#32
  let v925 : BitVec 32 := Scalar.muli v924 c1_i32_725
  let v926 : BitVec 32 := Scalar.addi c0_i32_726 v925
  v926.toNat
def k0_dev69 (d0 : Dev nD) : Nat :=
  let c0_i32_734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_731 : BitVec 32 := 6#32
  let v935 : BitVec 32 := Scalar.addi v2 c6_i32_731
  let c32_i32_732 : BitVec 32 := 32#32
  let v936 : BitVec 32 := Scalar.remsi v935 c32_i32_732
  let c1_i32_733 : BitVec 32 := 1#32
  let v937 : BitVec 32 := Scalar.muli v936 c1_i32_733
  let v938 : BitVec 32 := Scalar.addi c0_i32_734 v937
  v938.toNat
def k0_dev70 (d0 : Dev nD) : Nat :=
  let c0_i32_742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_739 : BitVec 32 := 7#32
  let v947 : BitVec 32 := Scalar.addi v2 c7_i32_739
  let c32_i32_740 : BitVec 32 := 32#32
  let v948 : BitVec 32 := Scalar.remsi v947 c32_i32_740
  let c1_i32_741 : BitVec 32 := 1#32
  let v949 : BitVec 32 := Scalar.muli v948 c1_i32_741
  let v950 : BitVec 32 := Scalar.addi c0_i32_742 v949
  v950.toNat
def k0_dev71 (d0 : Dev nD) : Nat :=
  let c0_i32_750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_747 : BitVec 32 := 8#32
  let v959 : BitVec 32 := Scalar.addi v2 c8_i32_747
  let c32_i32_748 : BitVec 32 := 32#32
  let v960 : BitVec 32 := Scalar.remsi v959 c32_i32_748
  let c1_i32_749 : BitVec 32 := 1#32
  let v961 : BitVec 32 := Scalar.muli v960 c1_i32_749
  let v962 : BitVec 32 := Scalar.addi c0_i32_750 v961
  v962.toNat
def k0_dev72 (d0 : Dev nD) : Nat :=
  let c0_i32_758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_755 : BitVec 32 := 9#32
  let v971 : BitVec 32 := Scalar.addi v2 c9_i32_755
  let c32_i32_756 : BitVec 32 := 32#32
  let v972 : BitVec 32 := Scalar.remsi v971 c32_i32_756
  let c1_i32_757 : BitVec 32 := 1#32
  let v973 : BitVec 32 := Scalar.muli v972 c1_i32_757
  let v974 : BitVec 32 := Scalar.addi c0_i32_758 v973
  v974.toNat
def k0_dev73 (d0 : Dev nD) : Nat :=
  let c0_i32_766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_763 : BitVec 32 := 10#32
  let v983 : BitVec 32 := Scalar.addi v2 c10_i32_763
  let c32_i32_764 : BitVec 32 := 32#32
  let v984 : BitVec 32 := Scalar.remsi v983 c32_i32_764
  let c1_i32_765 : BitVec 32 := 1#32
  let v985 : BitVec 32 := Scalar.muli v984 c1_i32_765
  let v986 : BitVec 32 := Scalar.addi c0_i32_766 v985
  v986.toNat
def k0_dev74 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_771 : BitVec 32 := 11#32
  let v995 : BitVec 32 := Scalar.addi v2 c11_i32_771
  let c32_i32_772 : BitVec 32 := 32#32
  let v996 : BitVec 32 := Scalar.remsi v995 c32_i32_772
  let c1_i32_773 : BitVec 32 := 1#32
  let v997 : BitVec 32 := Scalar.muli v996 c1_i32_773
  let v998 : BitVec 32 := Scalar.addi c0_i32_774 v997
  v998.toNat
def k0_dev75 (d0 : Dev nD) : Nat :=
  let c0_i32_782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_779 : BitVec 32 := 12#32
  let v1007 : BitVec 32 := Scalar.addi v2 c12_i32_779
  let c32_i32_780 : BitVec 32 := 32#32
  let v1008 : BitVec 32 := Scalar.remsi v1007 c32_i32_780
  let c1_i32_781 : BitVec 32 := 1#32
  let v1009 : BitVec 32 := Scalar.muli v1008 c1_i32_781
  let v1010 : BitVec 32 := Scalar.addi c0_i32_782 v1009
  v1010.toNat
def k0_dev76 (d0 : Dev nD) : Nat :=
  let c0_i32_790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_787 : BitVec 32 := 13#32
  let v1019 : BitVec 32 := Scalar.addi v2 c13_i32_787
  let c32_i32_788 : BitVec 32 := 32#32
  let v1020 : BitVec 32 := Scalar.remsi v1019 c32_i32_788
  let c1_i32_789 : BitVec 32 := 1#32
  let v1021 : BitVec 32 := Scalar.muli v1020 c1_i32_789
  let v1022 : BitVec 32 := Scalar.addi c0_i32_790 v1021
  v1022.toNat
def k0_dev77 (d0 : Dev nD) : Nat :=
  let c0_i32_798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_795 : BitVec 32 := 14#32
  let v1031 : BitVec 32 := Scalar.addi v2 c14_i32_795
  let c32_i32_796 : BitVec 32 := 32#32
  let v1032 : BitVec 32 := Scalar.remsi v1031 c32_i32_796
  let c1_i32_797 : BitVec 32 := 1#32
  let v1033 : BitVec 32 := Scalar.muli v1032 c1_i32_797
  let v1034 : BitVec 32 := Scalar.addi c0_i32_798 v1033
  v1034.toNat
def k0_dev78 (d0 : Dev nD) : Nat :=
  let c0_i32_806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_803 : BitVec 32 := 15#32
  let v1043 : BitVec 32 := Scalar.addi v2 c15_i32_803
  let c32_i32_804 : BitVec 32 := 32#32
  let v1044 : BitVec 32 := Scalar.remsi v1043 c32_i32_804
  let c1_i32_805 : BitVec 32 := 1#32
  let v1045 : BitVec 32 := Scalar.muli v1044 c1_i32_805
  let v1046 : BitVec 32 := Scalar.addi c0_i32_806 v1045
  v1046.toNat
def k0_dev79 (d0 : Dev nD) : Nat :=
  let c0_i32_814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_811 : BitVec 32 := 16#32
  let v1055 : BitVec 32 := Scalar.addi v2 c16_i32_811
  let c32_i32_812 : BitVec 32 := 32#32
  let v1056 : BitVec 32 := Scalar.remsi v1055 c32_i32_812
  let c1_i32_813 : BitVec 32 := 1#32
  let v1057 : BitVec 32 := Scalar.muli v1056 c1_i32_813
  let v1058 : BitVec 32 := Scalar.addi c0_i32_814 v1057
  v1058.toNat
def k0_dev80 (d0 : Dev nD) : Nat :=
  let c0_i32_822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_819 : BitVec 32 := 17#32
  let v1067 : BitVec 32 := Scalar.addi v2 c17_i32_819
  let c32_i32_820 : BitVec 32 := 32#32
  let v1068 : BitVec 32 := Scalar.remsi v1067 c32_i32_820
  let c1_i32_821 : BitVec 32 := 1#32
  let v1069 : BitVec 32 := Scalar.muli v1068 c1_i32_821
  let v1070 : BitVec 32 := Scalar.addi c0_i32_822 v1069
  v1070.toNat
def k0_dev81 (d0 : Dev nD) : Nat :=
  let c0_i32_830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_827 : BitVec 32 := 18#32
  let v1079 : BitVec 32 := Scalar.addi v2 c18_i32_827
  let c32_i32_828 : BitVec 32 := 32#32
  let v1080 : BitVec 32 := Scalar.remsi v1079 c32_i32_828
  let c1_i32_829 : BitVec 32 := 1#32
  let v1081 : BitVec 32 := Scalar.muli v1080 c1_i32_829
  let v1082 : BitVec 32 := Scalar.addi c0_i32_830 v1081
  v1082.toNat
def k0_dev82 (d0 : Dev nD) : Nat :=
  let c0_i32_838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_835 : BitVec 32 := 19#32
  let v1091 : BitVec 32 := Scalar.addi v2 c19_i32_835
  let c32_i32_836 : BitVec 32 := 32#32
  let v1092 : BitVec 32 := Scalar.remsi v1091 c32_i32_836
  let c1_i32_837 : BitVec 32 := 1#32
  let v1093 : BitVec 32 := Scalar.muli v1092 c1_i32_837
  let v1094 : BitVec 32 := Scalar.addi c0_i32_838 v1093
  v1094.toNat
def k0_dev83 (d0 : Dev nD) : Nat :=
  let c0_i32_846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_843 : BitVec 32 := 20#32
  let v1103 : BitVec 32 := Scalar.addi v2 c20_i32_843
  let c32_i32_844 : BitVec 32 := 32#32
  let v1104 : BitVec 32 := Scalar.remsi v1103 c32_i32_844
  let c1_i32_845 : BitVec 32 := 1#32
  let v1105 : BitVec 32 := Scalar.muli v1104 c1_i32_845
  let v1106 : BitVec 32 := Scalar.addi c0_i32_846 v1105
  v1106.toNat
def k0_dev84 (d0 : Dev nD) : Nat :=
  let c0_i32_854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_851 : BitVec 32 := 21#32
  let v1115 : BitVec 32 := Scalar.addi v2 c21_i32_851
  let c32_i32_852 : BitVec 32 := 32#32
  let v1116 : BitVec 32 := Scalar.remsi v1115 c32_i32_852
  let c1_i32_853 : BitVec 32 := 1#32
  let v1117 : BitVec 32 := Scalar.muli v1116 c1_i32_853
  let v1118 : BitVec 32 := Scalar.addi c0_i32_854 v1117
  v1118.toNat
def k0_dev85 (d0 : Dev nD) : Nat :=
  let c0_i32_862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_859 : BitVec 32 := 22#32
  let v1127 : BitVec 32 := Scalar.addi v2 c22_i32_859
  let c32_i32_860 : BitVec 32 := 32#32
  let v1128 : BitVec 32 := Scalar.remsi v1127 c32_i32_860
  let c1_i32_861 : BitVec 32 := 1#32
  let v1129 : BitVec 32 := Scalar.muli v1128 c1_i32_861
  let v1130 : BitVec 32 := Scalar.addi c0_i32_862 v1129
  v1130.toNat
def k0_dev86 (d0 : Dev nD) : Nat :=
  let c0_i32_870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_867 : BitVec 32 := 23#32
  let v1139 : BitVec 32 := Scalar.addi v2 c23_i32_867
  let c32_i32_868 : BitVec 32 := 32#32
  let v1140 : BitVec 32 := Scalar.remsi v1139 c32_i32_868
  let c1_i32_869 : BitVec 32 := 1#32
  let v1141 : BitVec 32 := Scalar.muli v1140 c1_i32_869
  let v1142 : BitVec 32 := Scalar.addi c0_i32_870 v1141
  v1142.toNat
def k0_dev87 (d0 : Dev nD) : Nat :=
  let c0_i32_878 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_875 : BitVec 32 := 24#32
  let v1151 : BitVec 32 := Scalar.addi v2 c24_i32_875
  let c32_i32_876 : BitVec 32 := 32#32
  let v1152 : BitVec 32 := Scalar.remsi v1151 c32_i32_876
  let c1_i32_877 : BitVec 32 := 1#32
  let v1153 : BitVec 32 := Scalar.muli v1152 c1_i32_877
  let v1154 : BitVec 32 := Scalar.addi c0_i32_878 v1153
  v1154.toNat
def k0_dev88 (d0 : Dev nD) : Nat :=
  let c0_i32_886 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_883 : BitVec 32 := 25#32
  let v1163 : BitVec 32 := Scalar.addi v2 c25_i32_883
  let c32_i32_884 : BitVec 32 := 32#32
  let v1164 : BitVec 32 := Scalar.remsi v1163 c32_i32_884
  let c1_i32_885 : BitVec 32 := 1#32
  let v1165 : BitVec 32 := Scalar.muli v1164 c1_i32_885
  let v1166 : BitVec 32 := Scalar.addi c0_i32_886 v1165
  v1166.toNat
def k0_dev89 (d0 : Dev nD) : Nat :=
  let c0_i32_894 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_891 : BitVec 32 := 26#32
  let v1175 : BitVec 32 := Scalar.addi v2 c26_i32_891
  let c32_i32_892 : BitVec 32 := 32#32
  let v1176 : BitVec 32 := Scalar.remsi v1175 c32_i32_892
  let c1_i32_893 : BitVec 32 := 1#32
  let v1177 : BitVec 32 := Scalar.muli v1176 c1_i32_893
  let v1178 : BitVec 32 := Scalar.addi c0_i32_894 v1177
  v1178.toNat
def k0_dev90 (d0 : Dev nD) : Nat :=
  let c0_i32_902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_899 : BitVec 32 := 27#32
  let v1187 : BitVec 32 := Scalar.addi v2 c27_i32_899
  let c32_i32_900 : BitVec 32 := 32#32
  let v1188 : BitVec 32 := Scalar.remsi v1187 c32_i32_900
  let c1_i32_901 : BitVec 32 := 1#32
  let v1189 : BitVec 32 := Scalar.muli v1188 c1_i32_901
  let v1190 : BitVec 32 := Scalar.addi c0_i32_902 v1189
  v1190.toNat
def k0_dev91 (d0 : Dev nD) : Nat :=
  let c0_i32_910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_907 : BitVec 32 := 28#32
  let v1199 : BitVec 32 := Scalar.addi v2 c28_i32_907
  let c32_i32_908 : BitVec 32 := 32#32
  let v1200 : BitVec 32 := Scalar.remsi v1199 c32_i32_908
  let c1_i32_909 : BitVec 32 := 1#32
  let v1201 : BitVec 32 := Scalar.muli v1200 c1_i32_909
  let v1202 : BitVec 32 := Scalar.addi c0_i32_910 v1201
  v1202.toNat
def k0_dev92 (d0 : Dev nD) : Nat :=
  let c0_i32_918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_915 : BitVec 32 := 29#32
  let v1211 : BitVec 32 := Scalar.addi v2 c29_i32_915
  let c32_i32_916 : BitVec 32 := 32#32
  let v1212 : BitVec 32 := Scalar.remsi v1211 c32_i32_916
  let c1_i32_917 : BitVec 32 := 1#32
  let v1213 : BitVec 32 := Scalar.muli v1212 c1_i32_917
  let v1214 : BitVec 32 := Scalar.addi c0_i32_918 v1213
  v1214.toNat
def k0_dev93 (d0 : Dev nD) : Nat :=
  let c0_i32_926 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_923 : BitVec 32 := 30#32
  let v1223 : BitVec 32 := Scalar.addi v2 c30_i32_923
  let c32_i32_924 : BitVec 32 := 32#32
  let v1224 : BitVec 32 := Scalar.remsi v1223 c32_i32_924
  let c1_i32_925 : BitVec 32 := 1#32
  let v1225 : BitVec 32 := Scalar.muli v1224 c1_i32_925
  let v1226 : BitVec 32 := Scalar.addi c0_i32_926 v1225
  v1226.toNat
def k0_dev94 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_931 : BitVec 32 := 31#32
  let v1235 : BitVec 32 := Scalar.addi v2 c31_i32_931
  let c32_i32_932 : BitVec 32 := 32#32
  let v1236 : BitVec 32 := Scalar.remsi v1235 c32_i32_932
  let c1_i32_933 : BitVec 32 := 1#32
  let v1237 : BitVec 32 := Scalar.muli v1236 c1_i32_933
  let v1238 : BitVec 32 := Scalar.addi c0_i32_934 v1237
  v1238.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S512x128 : Shape := ⟨2, ![512, 128]⟩
abbrev S1024x1 : Shape := ⟨2, ![1024, 1]⟩
abbrev S128x512x1024 : Shape := ⟨3, ![128, 512, 1024]⟩
abbrev S1024 : Shape := ⟨1, ![1024]⟩
abbrev S1 : Shape := ⟨1, ![1]⟩
abbrev S_ : Shape := ⟨0, ![]⟩
abbrev S1x1 : Shape := ⟨2, ![1, 1]⟩
abbrev S1024x512x1024 : Shape := ⟨3, ![1024, 512, 1024]⟩
abbrev S1024x1024 : Shape := ⟨2, ![1024, 1024]⟩

abbrev nBuf : Space → Nat
  | .hbm => 22
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x128, .f32⟩
  | .hbm, ⟨2, _⟩ => ⟨S1024x1, .i32⟩
  | .hbm, ⟨3, _⟩ => ⟨S128x512x1024, .f32⟩
  | .hbm, ⟨4, _⟩ => ⟨S1024, .i32⟩
  | .hbm, ⟨5, _⟩ => ⟨S1024x1, .i32⟩
  | .hbm, ⟨6, _⟩ => ⟨S1, .i32⟩
  | .hbm, ⟨7, _⟩ => ⟨S_, .i32⟩
  | .hbm, ⟨8, _⟩ => ⟨S1024x1, .i32⟩
  | .hbm, ⟨9, _⟩ => ⟨S1024x1, .i1⟩
  | .hbm, ⟨10, _⟩ => ⟨S1x1, .i32⟩
  | .hbm, ⟨11, _⟩ => ⟨S1024x1, .i32⟩
  | .hbm, ⟨12, _⟩ => ⟨S1024x1, .i1⟩
  | .hbm, ⟨13, _⟩ => ⟨S1024x1, .i1⟩
  | .hbm, ⟨14, _⟩ => ⟨S_, .i1⟩
  | .hbm, ⟨15, _⟩ => ⟨S1024, .i1⟩
  | .hbm, ⟨16, _⟩ => ⟨S1024x512x1024, .f32⟩
  | .hbm, ⟨17, _⟩ => ⟨S1024x512x1024, .i1⟩
  | .hbm, ⟨18, _⟩ => ⟨S_, .f32⟩
  | .hbm, ⟨19, _⟩ => ⟨S1024x512x1024, .f32⟩
  | .hbm, ⟨20, _⟩ => ⟨S1024x512x1024, .f32⟩
  | .hbm, ⟨21, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.Cells.lean ====
/-
  The protocol of the expert exchange: its cells, what their rounds hand over, and what each device owes.

  Every device holds a staging buffer (its experts' part of the result for every row), a landing buffer for the
  partial sums of its own rows (one slot per device) and a gathering buffer for the finished rows of every device
  (one slot per device). The barrier lends every device one slot of both buffers of every other device; the first
  exchange fills the landing slots, the second the gathering slots.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ValueLayout
public import Idealize.ShloMosaic.Lib.Tactic

@[expose] public section

set_option maxRecDepth 16384

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Transfers (shareTok shareDrop)

variable {F : FTy → Type} [FloatOps F]

/-- The rounds' resource algebra, duties named by devices. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barS : Sem sig := (SemArray.scalar (sig.barrier 0 rfl) : Sems sig S_).sem

/-- The semaphore of the transfer to device `t`. -/
def sendS (t : Dev nD) : DmaSem sig := ⟨5 + t.val, by have := t.isLt; show 5 + t.val < 101; simp only [nD] at this; omega⟩
/-- The semaphore on which device `s`'s partial sums land. -/
def sumS (s : Dev nD) : DmaSem sig := ⟨37 + s.val, by have := s.isLt; show 37 + s.val < 101; simp only [nD] at this; omega⟩
/-- The semaphore on which device `s`'s finished rows land. -/
def rowS (s : Dev nD) : DmaSem sig := ⟨69 + s.val, by have := s.isLt; show 69 + s.val < 101; simp only [nD] at this; omega⟩

abbrev barC (c : Dev nD) : GSem nD τ sig := ((c : Thread nD τ), .reg barS)
abbrev sendC (c t : Dev nD) : GSem nD τ sig := ((c : Thread nD τ), .dma (sendS t))
abbrev sumC (c s : Dev nD) : GSem nD τ sig := ((c : Thread nD τ), .dma (sumS s))
abbrev rowC (c s : Dev nD) : GSem nD τ sig := ((c : Thread nD τ), .dma (rowS s))

/-- The 96 semaphores of the transfers, in order. -/
abbrev osem : Fin 96 → SemLoc sig := fun i => .dma ⟨5 + i.val, by have := i.isLt; show 5 + i.val < 101; omega⟩

/-- The units a transfer of 32 rows credits. -/
abbrev N : ℕ := sig.dmaCredit .tc (Kind.tc.table .vmem) (cc0_scratch1 : Ref sig .tc).idx S32x1024 .bf16

/-- A transfer adds a positive amount to its counters. -/
theorem N_pos : 0 < N := sig.dmaCredit_pos _ _ _ _ _ (by decide)

/-! ## The buffers' parts -/

/-- The type of the staging buffer's contents. -/
abbrev StgT (F : FTy → Type) : Type := (cc0_scratch0 : Ref sig .tc).ty.Contents (Elt F)
/-- The type of the landing buffer's contents, also the gathering buffer's. -/
abbrev SlotT (F : FTy → Type) : Type := (cc0_scratch1 : Ref sig .tc).ty.Contents (Elt F)

/-- The staging rows that go to device `t`. -/
def rowsOf (t : Dev nD) : Finset S1024x1024.Idx := Finset.univ.filter fun p => (p 0).val / 32 = t.val
/-- Slot `s` of a buffer of 32 slots. -/
def slotOf (s : Dev nD) : Finset S32x32x1024.Idx := Finset.univ.filter fun p => (p 0).val = s.val

def stgPts (c : Dev nD) (S : Finset S1024x1024.Idx) (f : StgT F) : sProp 𝕄 :=
  ((c : Thread nD τ).loc cc0_scratch0) ↦[S]{fullShare} f
def sumPts (c : Dev nD) (S : Finset S32x32x1024.Idx) (f : SlotT F) : sProp 𝕄 :=
  ((c : Thread nD τ).loc cc0_scratch1) ↦[S]{fullShare} f
def rowPts (c : Dev nD) (q : PosShare TreeShare) (S : Finset S32x32x1024.Idx) (f : SlotT F) : sProp 𝕄 :=
  ((c : Thread nD τ).loc cc0_scratch2) ↦[S]{q} f

instance stgPts_st (c : Dev nD) (S) (f : StgT F) : BI.Storable (upEmb : UEmb _ 𝕄) (stgPts c S f) := by
  unfold stgPts; infer_instance
instance sumPts_st (c : Dev nD) (S) (f : SlotT F) : BI.Storable (upEmb : UEmb _ 𝕄) (sumPts c S f) := by
  unfold sumPts; infer_instance
instance rowPts_st (c : Dev nD) (q) (S) (f : SlotT F) : BI.Storable (upEmb : UEmb _ 𝕄) (rowPts c q S f) := by
  unfold rowPts; infer_instance

/-- What the exchange moves: every device's staged partial sums and the finished rows. -/
structure Moved (F : FTy → Type) where
  stg : Dev nD → StgT F
  fin : SlotT F

/-- The landing buffer of device `c` once every device's partial sums have arrived. -/
def Moved.sums (X : Moved F) (c : Dev nD) : SlotT F := fun p =>
  X.stg ⟨(p 0).val, (p 0).isLt⟩ (ix2 (⟨32 * c.val + (p 1).val, by
    have h1 : (p 1).val < 32 := (p 1).isLt
    have h2 : c.val < 32 := c.isLt
    omega⟩ : Fin 1024) (⟨(p 2).val, (p 2).isLt⟩ : Fin 1024))

/-! ## The schedule -/

variable (X : Moved F)

/-- What device `d`'s barrier signal lends device `c`: slot `c` of `d`'s landing and gathering buffers. -/
def barPay (d c : Dev nD) : sProp 𝕄 :=
  iprop((∃ f, sumPts d (slotOf c) f) ∗ (∃ f, rowPts d fullShare (slotOf c) f))

/-- Round 0 of a send cell gives back the staged rows, round 1 the finished rows' share lent to the transfer. -/
def sendPay (c t : Dev nD) (r : ℕ) : sProp 𝕄 :=
  if r = 0 then stgPts c (rowsOf t) (X.stg c) else rowPts c (shareTok fullShare 32 t) (slotOf c) X.fin

def sumPay (c s : Dev nD) : sProp 𝕄 := sumPts c (slotOf s) (X.sums c)
def rowPay (c s : Dev nD) : sProp 𝕄 := rowPts c fullShare (slotOf s) X.fin

instance barPay_st (d c : Dev nD) : BI.Storable (upEmb : UEmb _ 𝕄) (barPay (F := F) d c) := by
  unfold barPay; infer_instance
instance sendPay_st (c t : Dev nD) (r : ℕ) : BI.Storable (upEmb : UEmb _ 𝕄) (sendPay X c t r) := by
  unfold sendPay; split <;> infer_instance
instance sumPay_st (c s : Dev nD) : BI.Storable (upEmb : UEmb _ 𝕄) (sumPay X c s) := by
  unfold sumPay; infer_instance
instance rowPay_st (c s : Dev nD) : BI.Storable (upEmb : UEmb _ 𝕄) (rowPay X c s) := by
  unfold rowPay; infer_instance

/-- The device whose transfers use the semaphore numbered `n`. -/
def semDev (n : ℕ) : Dev nD := ⟨(n + 27) % 32, Nat.mod_lt _ (by decide)⟩

/-- The device behind the send semaphore of `t` is `t`. -/
theorem semDev_send (t : Dev nD) : semDev (sendS t).val = t := by revert t; decide
/-- The device behind the first landing semaphore of `t` is `t`. -/
theorem semDev_sum (t : Dev nD) : semDev (sumS t).val = t := by revert t; decide
/-- The device behind the second landing semaphore of `t` is `t`. -/
theorem semDev_row (t : Dev nD) : semDev (rowS t).val = t := by revert t; decide

/-- How many rounds the semaphore numbered `n` has on device `c`: none for the staging's and for a device's own
    index, two for a send, one for a landing. -/
def rounds (c : Dev nD) (n : ℕ) : ℕ :=
  if n < 5 ∨ semDev n = c then 0 else if n < 37 then 2 else 1

def xDuties (g : GSem nD τ sig) (r : ℕ) : Finset (Dev nD) :=
  match g.2 with
  | .reg _ => if r = 0 then Finset.univ.erase g.1.1 else ∅
  | .dma q => if r < rounds g.1.1 q.val then {0} else ∅

def xAmount (g : GSem nD τ sig) : ℕ :=
  match g.2 with
  | .reg _ => 1
  | .dma _ => N

def xPayload (g : GSem nD τ sig) (r : ℕ) (d : Dev nD) : sProp 𝕄 :=
  match g.2 with
  | .reg _ => barPay d g.1.1
  | .dma q => if q.val < 37 then sendPay X g.1.1 (semDev q.val) r
      else if q.val < 69 then sumPay X g.1.1 (semDev q.val) else rowPay X g.1.1 (semDev q.val)

/-- The exchange's schedule. -/
def sched : Rounds.Schedule (GSem nD τ sig) (Dev nD) 𝕄 where
  duties := xDuties
  unitless _ := False
  amount g _ _ := xAmount g
  payload := xPayload X
  amount_pos g _ _ _ := by
    unfold xAmount; split
    · exact Nat.one_pos
    · exact N_pos

instance sched_st (g : GSem nD τ sig) (r : ℕ) (d : Dev nD) :
    BI.Storable (upEmb : UEmb _ 𝕄) ((sched (F := F) X).payload g r d) := by
  show BI.Storable upEmb (xPayload X g r d)
  unfold xPayload; (repeat' split) <;> infer_instance

section Sched
variable (c d : Dev nD)

/-- Every other device signals a device's barrier. -/
theorem duties_bar : (sched X).duties (barC c) 0 = Finset.univ.erase c := rfl
/-- A barrier signal counts one. -/
theorem amount_bar (r : ℕ) : (sched X).amount (barC c) r d = 1 := rfl
/-- A transfer counts its whole credit. -/
theorem amount_dma (q : DmaSem sig) (r : ℕ) : (sched X).amount ((c : Thread nD τ), .dma q) r d = N := rfl
/-- What a barrier signal of `d` hands over. -/
theorem payload_bar (r : ℕ) : (sched X).payload (barC c) r d = barPay d c := rfl

/-- The send semaphore of another device is used in both phases. -/
theorem rounds_send {t : Dev nD} (h : t ≠ c) : rounds c (sendS t).val = 2 := by
  unfold rounds
  rw [semDev_send, if_neg (fun h' => h'.elim (fun h' => absurd h' (by simp [sendS])) h), if_pos]
  have : t.val < 32 := t.isLt
  show 5 + t.val < 37; omega
/-- The first landing semaphore of another device is used once. -/
theorem rounds_sum {s : Dev nD} (h : s ≠ c) : rounds c (sumS s).val = 1 := by
  unfold rounds
  rw [semDev_sum, if_neg (fun h' => h'.elim (fun h' => absurd h' (by simp [sumS]; omega)) h), if_neg]
  show ¬(37 + s.val < 37); omega
/-- The second landing semaphore of another device is used once. -/
theorem rounds_row {s : Dev nD} (h : s ≠ c) : rounds c (rowS s).val = 1 := by
  unfold rounds
  rw [semDev_row, if_neg (fun h' => h'.elim (fun h' => absurd h' (by simp [rowS]; omega)) h), if_neg]
  show ¬(69 + s.val < 37); omega

/-- A transfer's cell has one duty in each of its rounds and none after. -/
theorem duties_dma (q : DmaSem sig) (r : ℕ) :
    (sched X).duties ((c : Thread nD τ), .dma q) r = if r < rounds c q.val then {0} else ∅ := rfl
/-- The one duty of a send cell in either phase. -/
theorem duties_send {t : Dev nD} (h : t ≠ c) {r : ℕ} (hr : r < 2) : (sched X).duties (sendC c t) r = {0} := by
  rw [duties_dma, rounds_send c h, if_pos hr]
/-- The one duty of a first landing cell. -/
theorem duties_sum {s : Dev nD} (h : s ≠ c) : (sched X).duties (sumC c s) 0 = {0} := by
  rw [duties_dma, rounds_sum c h, if_pos Nat.one_pos]
/-- The one duty of a second landing cell. -/
theorem duties_row {s : Dev nD} (h : s ≠ c) : (sched X).duties (rowC c s) 0 = {0} := by
  rw [duties_dma, rounds_row c h, if_pos Nat.one_pos]

/-- What completing a send hands back to the sender. -/
theorem payload_send (t : Dev nD) (r : ℕ) : (sched X).payload (sendC c t) r d = sendPay X c t r := by
  show (if (sendS t).val < 37 then sendPay X c (semDev (sendS t).val) r else _) = _
  have : t.val < 32 := t.isLt
  rw [semDev_send, if_pos (by show 5 + t.val < 37; omega)]
/-- What a landing of the first phase hands to the receiver. -/
theorem payload_sum (s : Dev nD) (r : ℕ) : (sched X).payload (sumC c s) r d = sumPay X c s := by
  show (if (sumS s).val < 37 then _ else if (sumS s).val < 69 then sumPay X c (semDev (sumS s).val) else _) = _
  have : s.val < 32 := s.isLt
  rw [semDev_sum, if_neg (by show ¬(37 + s.val < 37); omega), if_pos (by show 37 + s.val < 69; omega)]
/-- What a landing of the second phase hands to the receiver. -/
theorem payload_row (s : Dev nD) (r : ℕ) : (sched X).payload (rowC c s) r d = rowPay X c s := by
  show (if (rowS s).val < 37 then _ else if (rowS s).val < 69 then _ else rowPay X c (semDev (rowS s).val)) = _
  rw [semDev_row, if_neg (by show ¬(69 + s.val < 37); omega), if_neg (by show ¬(69 + s.val < 69); omega)]

/-- The barrier waits for thirty-one signals. -/
theorem expect_bar : (sched X).expect (barC c) 0 = 31 := by
  unfold Schedule.expect Schedule.amountOf
  rw [duties_bar, Finset.sum_congr rfl fun d _ => amount_bar X c d 0, Finset.sum_const, Finset.card_erase_of_mem (Finset.mem_univ _)]
  rfl
/-- A transfer's cell with one duty waits for one transfer's credit. -/
theorem expect_one (g : GSem nD τ sig) (r : ℕ) (q : DmaSem sig) (hg : g.2 = .dma q) (h : (sched X).duties g r = {0}) :
    (sched X).expect g r = N := by
  unfold Schedule.expect Schedule.amountOf
  rw [h, Finset.sum_singleton]
  show xAmount g = N
  unfold xAmount; rw [hg]
/-- The payloads still to come in a cell with one duty. -/
theorem rest_one (g : GSem nD τ sig) (r : ℕ) (h : (sched X).duties g r = {0}) :
    bigSep ((sched X).duties g r \ ∅) (fun d => (sched X).payload g r d) = (sched X).payload g r 0 := by
  rw [Finset.sdiff_empty, h, bigSep_singleton]
/-- The payloads still to come at the barrier: one from each other device. -/
theorem rest_bar : bigSep ((sched X).duties (barC c) 0 \ ∅) (fun d => (sched X).payload (barC c) 0 d)
    = bigSep (Finset.univ.erase c) fun d => barPay (F := F) d c := by
  rw [Finset.sdiff_empty, duties_bar]; rfl

end Sched

/-! ## Levels and debts -/

def L (g : GSem nD τ sig) : Finset Unit := if g.1.2 = .tc then {()} else ∅
/-- Barrier cells at 1, the partial sums' landings at 2, the finished rows' at 3, the others at 0. -/
def lv (g : GSem nD τ sig) (_ : Unit) : ℕ :=
  match g.2 with
  | .reg _ => 1
  | .dma q => if q.val < 37 then 0 else if q.val < 69 then 2 else 3

/-- Only the devices' main threads have cells with a level. -/
theorem L_of_ne (g : GSem nD τ sig) (h : g.1.2 ≠ .tc) : L g = ∅ := if_neg h
/-- Every cell of a main thread has a level. -/
theorem L_tc (c : Dev nD) (sm : SemLoc sig) : L ((c : Thread nD τ), sm) = {()} := if_pos rfl

/-- A send cell is at level zero. -/
theorem lv_send (c t : Dev nD) : lv (sendC c t) () = 0 := by
  have : t.val < 32 := t.isLt
  show (if (sendS t).val < 37 then 0 else _) = 0
  rw [if_pos (by show 5 + t.val < 37; omega)]
/-- A first landing cell is at level two. -/
theorem lv_sum (c s : Dev nD) : lv (sumC c s) () = 2 := by
  have : s.val < 32 := s.isLt
  show (if (sumS s).val < 37 then 0 else if (sumS s).val < 69 then 2 else 3) = 2
  rw [if_neg (by show ¬(37 + s.val < 37); omega), if_pos (by show 37 + s.val < 69; omega)]
/-- A second landing cell is at level three. -/
theorem lv_row (c s : Dev nD) : lv (rowC c s) () = 3 := by
  show (if (rowS s).val < 37 then 0 else if (rowS s).val < 69 then 2 else 3) = 3
  rw [if_neg (by show ¬(69 + s.val < 37); omega), if_neg (by show ¬(69 + s.val < 69); omega)]

/-- One unit to the barrier of every device of `S`. -/
def owBar (S : Finset (Dev nD)) : CellTallies nD τ sig Unit := ∑ t ∈ S, tallyAt (barC t) () 1
/-- Device `c`'s partial sums to every device of `S`. -/
def owSum (c : Dev nD) (S : Finset (Dev nD)) : CellTallies nD τ sig Unit := ∑ t ∈ S, tallyAt (sumC t c) () N
/-- Device `c`'s finished rows to every device of `S`. -/
def owRow (c : Dev nD) (S : Finset (Dev nD)) : CellTallies nD τ sig Unit := ∑ t ∈ S, tallyAt (rowC t c) () N

/-- Every debt is to one of these cells at a level above `b`. -/
def Above (b : ℕ) (O : CellTallies nD τ sig Unit) : Prop :=
  ∀ (g : GSem nD τ sig) (u : Unit), 0 < O g u → g.1.2 = .tc ∧ b < lv g ()

/-- Debts above a level add up to debts above it. -/
theorem Above.add {b : ℕ} {O O' : CellTallies nD τ sig Unit} (h : Above b O) (h' : Above b O') : Above b (O + O') :=
  fun g u hg => by
    rw [Pi.add_apply, Finsupp.add_apply] at hg
    rcases Nat.eq_zero_or_pos (O g u) with h0 | h0
    · exact h' g u (by omega)
    · exact h g u h0
/-- No debt is above every level. -/
theorem Above.zero {b : ℕ} : Above b 0 := fun g u hg => absurd hg (Nat.lt_irrefl 0)
/-- A debt at one cell is above what the cell's level is above. -/
theorem Above.tally {b n : ℕ} (c : Dev nD) (sm : SemLoc sig) (h : b < lv ((c : Thread nD τ), sm) ()) :
    Above b (tallyAt ((c : Thread nD τ), sm) () n) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)
/-- A sum of debts above a level is above it. -/
theorem Above.sum {b : ℕ} (S : Finset (Dev nD)) (f : Dev nD → CellTallies nD τ sig Unit) (h : ∀ t, Above b (f t)) :
    Above b (∑ t ∈ S, f t) := by
  classical
  induction S using Finset.induction_on with
  | empty => rw [Finset.sum_empty]; exact Above.zero
  | insert a S ha ih => rw [Finset.sum_insert ha]; exact (h a).add ih

/-- The barrier's debts are above level zero. -/
theorem above_bar (S : Finset (Dev nD)) : Above 0 (owBar S) :=
  Above.sum _ _ fun t => Above.tally t _ (by show 0 < 1; decide)
/-- The first phase's debts are above level one. -/
theorem above_sum (c : Dev nD) (S : Finset (Dev nD)) : Above 1 (owSum c S) :=
  Above.sum _ _ fun t => Above.tally t _ (by rw [lv_sum]; decide)
/-- The second phase's debts are above level two. -/
theorem above_row (c : Dev nD) (S : Finset (Dev nD)) : Above 2 (owRow c S) :=
  Above.sum _ _ fun t => Above.tally t _ (by rw [lv_row]; decide)
/-- Debts above a level are above every lower one. -/
theorem Above.mono {b b' : ℕ} {O : CellTallies nD τ sig Unit} (h : Above b' O) (hb : b ≤ b') : Above b O :=
  fun g u hg => ⟨(h g u hg).1, lt_of_le_of_lt hb (h g u hg).2⟩

/-- A wait at a level no debt is at or below. -/
theorem mayWait_of_above (c : Dev nD) (sm : SemLoc sig) {b : ℕ} (O : CellTallies nD τ sig Unit) (hO : Above b O)
    (hb : lv ((c : Thread nD τ), sm) () ≤ b) : (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

/-! ## The semaphores the program names -/

/-- The only position of a one-element axis is zero. -/
theorem one_val (x : S1.Idx) : (x 0).val = 0 := by
  have h : (x 0).val < 1 := (x 0).isLt
  omega

/-- The send semaphore sliced at `s` is the one numbered for `s`. -/
theorem sem_send (s : ℕ) (hs : s < 32) (h : ∀ a, (![s] : Fin 1 → ℕ) a + S1.size a ≤ S32.size a) :
    ((cc0_scratch3.slice (Rect.unit (s := S32) ![s] S1.size h)).squeeze S_ squeezes_S1_S_).sem = sendS ⟨s, hs⟩ := by
  apply Fin.ext
  show 5 + (S32.rowMajor _ : ℕ) = 5 + s
  rw [Shape.rowMajor_val_one]
  show 5 + (s + 1 * _) = 5 + s
  rw [one_val]; omega
/-- The first landing semaphore sliced at `s` is the one numbered for `s`. -/
theorem sem_sum (s : ℕ) (hs : s < 32) (h : ∀ a, (![s] : Fin 1 → ℕ) a + S1.size a ≤ S32.size a) :
    ((cc0_scratch4.slice (Rect.unit (s := S32) ![s] S1.size h)).squeeze S_ squeezes_S1_S_).sem = sumS ⟨s, hs⟩ := by
  apply Fin.ext
  show 37 + (S32.rowMajor _ : ℕ) = 37 + s
  rw [Shape.rowMajor_val_one]
  show 37 + (s + 1 * _) = 37 + s
  rw [one_val]; omega
/-- The second landing semaphore sliced at `s` is the one numbered for `s`. -/
theorem sem_row (s : ℕ) (hs : s < 32) (h : ∀ a, (![s] : Fin 1 → ℕ) a + S1.size a ≤ S32.size a) :
    ((cc0_scratch5.slice (Rect.unit (s := S32) ![s] S1.size h)).squeeze S_ squeezes_S1_S_).sem = rowS ⟨s, hs⟩ := by
  apply Fin.ext
  show 69 + (S32.rowMajor _ : ℕ) = 69 + s
  rw [Shape.rowMajor_val_one]
  show 69 + (s + 1 * _) = 69 + s
  rw [one_val]; omega

/-! ## The parts of the buffers the program names -/

/-- Slot `s` of the landing buffer, as a block of 32 rows. -/
abbrev sumV (off : Fin 3 → ℕ) (h : ∀ a, off a + S1x32x1024.size a ≤ S32x32x1024.size a) : Memref sig .tc .vmem S32x1024 .bf16 :=
  ((Memref.whole cc0_scratch1 : Memref sig .tc .vmem S32x32x1024 .bf16).slice (Rect.unit (s := S32x32x1024) off S1x32x1024.size h) (fun _ => rfl)).squeeze S32x1024 squeezes_S1x32x1024_S32x1024
/-- Slot `s` of the gathering buffer, as a block of 32 rows. -/
abbrev rowV (off : Fin 3 → ℕ) (h : ∀ a, off a + S1x32x1024.size a ≤ S32x32x1024.size a) : Memref sig .tc .vmem S32x1024 .bf16 :=
  ((Memref.whole cc0_scratch2 : Memref sig .tc .vmem S32x32x1024 .bf16).slice (Rect.unit (s := S32x32x1024) off S1x32x1024.size h) (fun _ => rfl)).squeeze S32x1024 squeezes_S1x32x1024_S32x1024
/-- A block of 32 rows of the staging buffer. -/
abbrev stgV (off : Fin 2 → ℕ) (h : ∀ a, off a + S32x1024.size a ≤ S1024x1024.size a) : Memref sig .tc .vmem S32x1024 .bf16 :=
  (Memref.whole cc0_scratch0 : Memref sig .tc .vmem S1024x1024 .bf16).slice (Rect.unit (s := S1024x1024) off S32x1024.size h) (fun _ => rfl)

/-- The rectangle of a slot covers that slot. -/
theorem slot_rect (s : Dev nD) (h) : (Rect.unit (s := S32x32x1024) ![s.val, 0, 0] S1x32x1024.size h).set = slotOf s := by
  ext p
  rw [Rect.mem_set_unit]
  unfold slotOf
  rw [Finset.mem_filter]
  constructor
  · intro hp
    have h0 := hp 0
    refine ⟨Finset.mem_univ _, ?_⟩
    have h1 : s.val ≤ (p 0).val := h0.1
    have h2 : (p 0).val < s.val + 1 := h0.2
    omega
  · rintro ⟨_, hp⟩ a
    have p1 : (p 1).val < 32 := (p 1).isLt
    have p2 : (p 2).val < 1024 := (p 2).isLt
    match a with
    | ⟨0, _⟩ => exact ⟨(by show s.val ≤ (p 0).val; omega), (by show (p 0).val < s.val + 1; omega)⟩
    | ⟨1, _⟩ => exact ⟨Nat.zero_le _, (by show (p 1).val < 0 + 32; omega)⟩
    | ⟨2, _⟩ => exact ⟨Nat.zero_le _, (by show (p 2).val < 0 + 1024; omega)⟩

/-- The rectangle of a device's rows covers those rows. -/
theorem rows_rect (t : Dev nD) (h) : (Rect.unit (s := S1024x1024) ![32 * t.val, 0] S32x1024.size h).set = rowsOf t := by
  ext p
  rw [Rect.mem_set_unit]
  unfold rowsOf
  rw [Finset.mem_filter]
  constructor
  · intro hp
    have h0 := hp 0
    refine ⟨Finset.mem_univ _, ?_⟩
    have h1 : 32 * t.val ≤ (p 0).val := h0.1
    have h2 : (p 0).val < 32 * t.val + 32 := h0.2
    omega
  · rintro ⟨_, hp⟩ a
    have p1 : (p 1).val < 1024 := (p 1).isLt
    match a with
    | ⟨0, _⟩ => exact ⟨(by show 32 * t.val ≤ (p 0).val; omega), (by show (p 0).val < 32 * t.val + 32; omega)⟩
    | ⟨1, _⟩ => exact ⟨Nat.zero_le _, (by show (p 1).val < 0 + 1024; omega)⟩

/-- The view of a slot of the first phase covers that slot. -/
theorem sumV_set (s : Dev nD) (h) : (sumV ![s.val, 0, 0] h).view.set = slotOf s := by
  show ((View.reshape _ _ _).set) = _
  rw [View.set_reshape]
  exact (View.set_slice_whole _ _).trans (slot_rect s h)
/-- The view of a slot of the second phase covers that slot. -/
theorem rowV_set (s : Dev nD) (h) : (rowV ![s.val, 0, 0] h).view.set = slotOf s := by
  show ((View.reshape _ _ _).set) = _
  rw [View.set_reshape]
  exact (View.set_slice_whole _ _).trans (slot_rect s h)
/-- The view of a device's staged rows covers those rows. -/
theorem stgV_set (t : Dev nD) (h) : (stgV ![32 * t.val, 0] h).view.set = rowsOf t :=
  (View.set_slice_whole _ _).trans (rows_rect t h)

/-- Where a slot's row and column are in its buffer. -/
theorem slot_emb (s : Dev nD) (h) (hn : S32x1024.numel = S1x32x1024.numel) (x : S32x1024.Idx) :
    (Rect.unit (s := S32x32x1024) ![s.val, 0, 0] S1x32x1024.size h).emb (Shape.reshapeEquiv hn x)
      = ix3 (⟨s.val, s.isLt⟩ : Fin 32) (⟨(x 0).val, (x 0).isLt⟩ : Fin 32) (⟨(x 1).val, (x 1).isLt⟩ : Fin 1024) := by
  have hx : x = ix2 (⟨(x 0).val, (x 0).isLt⟩ : Fin 32) (⟨(x 1).val, (x 1).isLt⟩ : Fin 1024) := by
    funext a; match a with
    | ⟨0, _⟩ => rfl
    | ⟨1, _⟩ => rfl
  rw [hx, show Shape.reshapeEquiv hn (ix2 (⟨(x 0).val, (x 0).isLt⟩ : Fin 32) (⟨(x 1).val, (x 1).isLt⟩ : Fin 1024)) = _ from reshapeEquiv_ix2_1ab hn _ _]
  funext a
  apply Fin.ext
  match a with
  | ⟨0, _⟩ => show s.val + 1 * 0 = s.val; omega
  | ⟨1, _⟩ => show 0 + 1 * (x 0).val = (x 0).val; omega
  | ⟨2, _⟩ => show 0 + 1 * (x 1).val = (x 1).val; omega

/-- Every position of a slot is the image of a position of its block. -/
theorem mem_slot_emb (s : Dev nD) (h) (hn : S32x1024.numel = S1x32x1024.numel) {i : S32x32x1024.Idx} (hi : i ∈ slotOf s) :
    ∃ x : S32x1024.Idx, (Rect.unit (s := S32x32x1024) ![s.val, 0, 0] S1x32x1024.size h).emb (Shape.reshapeEquiv hn x) = i := by
  have hi0 : (i 0).val = s.val := (Finset.mem_filter.mp hi).2
  refine ⟨ix2 (⟨(i 1).val, (i 1).isLt⟩ : Fin 32) (⟨(i 2).val, (i 2).isLt⟩ : Fin 1024), ?_⟩
  rw [slot_emb]
  funext a
  apply Fin.ext
  match a with
  | ⟨0, _⟩ => exact hi0.symm
  | ⟨1, _⟩ => rfl
  | ⟨2, _⟩ => rfl

/-- What lands in slot `c` of device `t`'s landing buffer: the rows device `c` staged for `t`. -/
theorem sum_landed (c t : Dev nD) (h) (h' : ∀ a, (![32 * t.val, 0] : Fin 2 → ℕ) a + S32x1024.size a ≤ S1024x1024.size a) (fd : SlotT F) (i : S32x32x1024.Idx) (hi : i ∈ slotOf c) :
    (sumV ![c.val, 0, 0] h).view.write (Elt F) fd ((stgV ![32 * t.val, 0] h').view.read (Elt F) (X.stg c : (cc0_scratch0 : Ref sig .tc).ty.Contents (Elt F))) Finset.univ i
      = X.sums t i := by
  obtain ⟨x, rfl⟩ := mem_slot_emb c h squeezes_S1x32x1024_S32x1024.numel_eq hi
  refine (View.write_emb_of_mem (v := (sumV ![c.val, 0, 0] h).view) fd _ (Finset.mem_univ x)).trans ?_
  rw [slot_emb]
  show X.stg c _ = X.stg _ _
  refine congrArg₂ X.stg (Fin.ext rfl) ?_
  funext a
  apply Fin.ext
  match a with
  | ⟨0, _⟩ => show 32 * t.val + 1 * (x 0).val = 32 * t.val + (x 0).val; omega
  | ⟨1, _⟩ => show 0 + 1 * (x 1).val = (x 1).val; omega

/-- What lands in slot `c` of another device's gathering buffer: device `c`'s finished rows. -/
theorem row_landed (c : Dev nD) (h h') (fd : SlotT F) (i : S32x32x1024.Idx) (hi : i ∈ slotOf c) :
    (rowV ![c.val, 0, 0] h).view.write (Elt F) fd ((rowV ![c.val, 0, 0] h').view.read (Elt F) X.fin) Finset.univ i
      = X.fin i := by
  obtain ⟨x, rfl⟩ := mem_slot_emb c h squeezes_S1x32x1024_S32x1024.numel_eq hi
  exact (View.write_emb_of_mem (v := (rowV ![c.val, 0, 0] h).view) fd _ (Finset.mem_univ x)).trans rfl

end Cert.KernelIdeal.Dist
-- ==== Proof.Steps.lean ====
/-
  One rule per operation of the exchange: a barrier signal and the barrier's wait, a transfer of staged rows, a
  transfer of finished rows, a wait for a transfer. Each rule moves one device from the devices still to be served
  to the devices served.
-/
module

public import proofs.«01_k».proof.Proof.Cells

@[expose] public section

set_option maxRecDepth 16384

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Transfers (shareTok shareDrop)

variable {F : FTy → Type} [FloatOps F]

local notation "𝕄" => MT nD τ sig Unit (Elt F) ℕ UU ℕ

variable (X : Moved F)

abbrev 𝒱₀ : Variants := Variants.none

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows: all cells' invariants, that every cell has reached round 0, and the levels -/

/-- A cell of device `c`: its barrier's, or one of its transfers'. -/
abbrev kcell (ck : Dev nD × Option (Fin 96)) : GSem nD τ sig :=
  ((ck.1 : Thread nD τ), match ck.2 with | none => .reg barS | some i => osem i)

def Ctx : sProp 𝕄 :=
  iprop((bigSep Finset.univ fun ck : Dev nD × Option (Fin 96) =>
    iprop((∃ κ, cellInv ER (sched X) κ (kcell ck)) ∗ reached ER (kcell ck) 0)) ∗ levAts L lv)

instance Ctx_persistent : BI.Persistent (Ctx X) := by unfold Ctx; infer_instance

/-- What is known of one cell. -/
def Known (g : GSem nD τ sig) : sProp 𝕄 := iprop((∃ κ, cellInv ER (sched X) κ g) ∗ reached ER g 0)

instance Known_persistent (g) : BI.Persistent (Known X g) := by unfold Known; infer_instance

/-- The context knows every cell. -/
theorem ctx_cell (ck : Dev nD × Option (Fin 96)) : Ctx X ⊢ Known X (kcell ck) := by
  unfold Ctx
  iintro ⟨H, -⟩
  have e : (bigSep Finset.univ fun ck : Dev nD × Option (Fin 96) => Known X (kcell ck)) ⊢ Known X (kcell ck) :=
    bigSep_elim (Finset.mem_univ ck)
  iapply e
  iexact H

/-- The context knows the cells' levels. -/
theorem ctx_lev : Ctx X ⊢ levAts L lv := by
  unfold Ctx
  iintro ⟨-, H⟩
  iexact H

/-- The context knows the barriers. -/
theorem ctx_bar (t : Dev nD) : Ctx X ⊢ Known X (barC t) := ctx_cell X (t, none)
/-- The context knows the send cells. -/
theorem ctx_send (c t : Dev nD) : Ctx X ⊢ Known X (sendC c t) := by
  have h := ctx_cell X (c, some ⟨t.val, by have : t.val < 32 := t.isLt; omega⟩)
  exact h
/-- The context knows the first landing cells. -/
theorem ctx_sum (c s : Dev nD) : Ctx X ⊢ Known X (sumC c s) := by
  have h := ctx_cell X (c, some ⟨32 + s.val, by have : s.val < 32 := s.isLt; omega⟩)
  rwa [show kcell (c, some ⟨32 + s.val, by have : s.val < 32 := s.isLt; omega⟩) = sumC c s from
    Prod.ext rfl (congrArg SemLoc.dma (Fin.ext (by show 5 + (32 + s.val) = 37 + s.val; omega)))] at h
/-- The context knows the second landing cells. -/
theorem ctx_row (c s : Dev nD) : Ctx X ⊢ Known X (rowC c s) := by
  have h := ctx_cell X (c, some ⟨64 + s.val, by have : s.val < 32 := s.isLt; omega⟩)
  rwa [show kcell (c, some ⟨64 + s.val, by have : s.val < 32 := s.isLt; omega⟩) = rowC c s from
    Prod.ext rfl (congrArg SemLoc.dma (Fin.ext (by show 5 + (64 + s.val) = 69 + s.val; omega)))] at h

/-- What a device still owes, whatever it has waited on. -/
def owesE (c : Dev nD) (O : CellTallies nD τ sig Unit) : sProp 𝕄 := iprop(∃ W, owes (c : Thread nD τ) O W)

/-! ## Serving one device of a set -/

/-- One member of a conjunction can be taken out. -/
theorem take {A : Dev nD → sProp 𝕄} {S : Finset (Dev nD)} {t : Dev nD} (h : t ∈ S) :
    bigSep S A ⊢ iprop(A t ∗ bigSep (S.erase t) A) :=
  Entails.of_eq (bigSep_erase h)
/-- One member can be put into a conjunction. -/
theorem put {B : Dev nD → sProp 𝕄} {D : Finset (Dev nD)} {t : Dev nD} (h : t ∉ D) :
    iprop(B t ∗ bigSep D B) ⊢ bigSep (insert t D) B :=
  Entails.of_eq (bigSep_insert h).symm

/-- Returning a value needs what is claimed of it. -/
theorem ret_intro {c : Dev nD} {α : Type} {a : α} {Q : α → sProp 𝕄} : Q a ⊢ WP c (.ret a) Q := by
  unfold WP
  rw [wp_ret]
  iintro H
  imodintro
  iexact H

/-- A pure value needs what is claimed of it. -/
theorem pure_step {c : Dev nD} {α : Type} {a : α} {P : sProp 𝕄} {Q : α → sProp 𝕄} (h : P ⊢ Q a) : P ⊢ WP c (pure a) Q :=
  h.trans ret_intro

/-- Asking for the device's number gives it. -/
theorem dev_step {c : Dev nD} {P : sProp 𝕄} {Q : Dev nD → sProp 𝕄} (h : P ⊢ Q c) : P ⊢ WP c (Prog.lift .deviceId) Q := by
  unfold Prog.lift WP
  rw [wp_deviceId]
  exact h.trans ret_intro

/-- A sequence is its first part with the rest as goal. -/
theorem WP_bind (c : Dev nD) {α β : Type} (p : Prog (TpuEff nD τ sig (Elt F) Λ₀ .tc) α)
    (k : α → Prog (TpuEff nD τ sig (Elt F) Λ₀ .tc) β) (Q : β → sProp 𝕄) :
    WP c (p >>= k) Q = WP c p fun a => WP c (k a) Q := by
  unfold WP; rw [wp_bind]

/-- A conditional whose branches both lead to `M`. -/
theorem cond_step {c : Dev nD} {p : Prop} [Decidable p] {α : Type} {A : p → Prog (TpuEff nD τ sig (Elt F) Λ₀ .tc) α}
    {B : ¬p → Prog (TpuEff nD τ sig (Elt F) Λ₀ .tc) α} {P : sProp 𝕄} {Q : α → sProp 𝕄}
    (hA : ∀ h, P ⊢ WP c (A h) Q) (hB : ∀ h, P ⊢ WP c (B h) Q) : P ⊢ WP c (if h : p then A h else B h) Q := by
  by_cases h : p
  · rw [dif_pos h]; exact hA h
  · rw [dif_neg h]; exact hB h

/-! ## The barrier -/

/-- Device `c` before its signals to the devices of `S`. -/
def Sig (c : Dev nD) (S : Finset (Dev nD)) (O : CellTallies nD τ sig Unit) : sProp 𝕄 :=
  iprop(owesE c (O + owBar S) ∗ bigSep S fun t => iprop(dutyTok ER (barC t) 0 c ∗ barPay (F := F) c t))

/-- A barrier signal to another device. -/
theorem step_signal {c t n : Dev nD} {S : Finset (Dev nD)} {O : CellTallies nD τ sig Unit} (hS : t ∈ S) (htc : c ≠ t) (hn : n = t)
    {R : sProp 𝕄} {Q : PUnit → sProp 𝕄} (h : iprop(Ctx X ∗ Sig c (S.erase t) O ∗ R) ⊢ Q ⟨⟩) :
    iprop(Ctx X ∗ Sig c S O ∗ R) ⊢ WP c (semSignalWord n barS 1#32) Q := by
  subst hn
  unfold semSignalWord
  rw [show (1#32).toInt = ((1 : ℕ) : ℤ) from by decide]
  unfold Sig owesE at h ⊢
  iintro ⟨#HC, ⟨⟨%W, HO⟩, HS⟩, HR⟩
  ihave HS' := (take hS) $$ HS
  icases HS' with ⟨⟨Ht, Hp⟩, HS⟩
  ihave HK := (ctx_bar X n) $$ HC
  unfold Known
  icases HK with ⟨⟨%κ, HI⟩, Hr⟩
  iapply (Rounds.wp_signal 𝒱₀ ER (sched X) (c : Thread nD τ) none (dst := (n : Thread nD τ)) (κ := κ)
      (d := c) (r := 0) (by rw [duties_bar]; exact Finset.mem_erase.mpr ⟨htc, Finset.mem_univ _⟩)
      (k' := 1) (amount_bar X n c 0) () (O₀ := O + owBar S) (O + owBar (S.erase n))
      (by unfold owBar; rw [add_assoc, Finset.sum_erase_add _ _ hS])) $$ [HO Ht Hp HI Hr]
  · isplitl [HI]; · iexact HI
    isplitl [HO]; · iexact HO
    isplitl [Ht]; · iexact Ht
    isplitl [Hp]; · rw [payload_bar]; iexact Hp
    iexact Hr
  iintro HO
  iapply ret_intro
  iapply h
  isplitr; · iexact HC
  isplitr [HR]
  · isplitl [HO]; · iexists W; iexact HO
    iexact HS
  iexact HR

/-- The wait at the barrier. -/
theorem step_barrier {c : Dev nD} {O : CellTallies nD τ sig Unit} (hO : Above 1 O)
    {R : sProp 𝕄} {Q : PUnit → sProp 𝕄}
    (h : iprop(Ctx X ∗ (owesE c O ∗ atPos ER (barC c) 1 ∅ 0 ∗ bigSep (Finset.univ.erase c) fun d => barPay (F := F) d c) ∗ R) ⊢ Q ⟨⟩) :
    iprop(Ctx X ∗ (owesE c O ∗ cred (tallyAt (barC c) () 31) ∗ atPos ER (barC c) 0 ∅ 0) ∗ R)
      ⊢ WP c (semWaitWord barS 31#32) Q := by
  unfold semWaitWord
  rw [show (31#32).toInt = ((31 : ℕ) : ℤ) from by decide]
  unfold owesE at h ⊢
  iintro ⟨#HC, ⟨⟨%W, HO⟩, Hc, Ha⟩, HR⟩
  ihave HK := (ctx_bar X c) $$ HC
  unfold Known
  icases HK with ⟨⟨%κ, HI⟩, Hr⟩
  iapply (Rounds.wp_wait_rest_token 𝒱₀ ER (sched X) (c : Thread nD τ) none (κ := κ)
      (wpE_semWait_eq 𝒱₀ (c : Thread nD τ) none Set.univ) (Set.mem_univ _) () (O := O) (W := W) (R := 0) (m := 0) (T := ∅)
      (by rw [expect_bar])) $$ [Hc HO Ha HI]
  · isplitl [HI]; · iexact HI
    isplitl [Hc]; · iexact Hc
    isplitl [HO]; · iexact HO
    isplitr
    · iapply (mayWait_of_above c (.reg barS) O hO (Nat.le_refl 1))
      iapply (ctx_lev X); iexact HC
    iexact Ha
  iintro ⟨HO, Ha, -, Hp⟩
  ihave Hp := (Entails.of_eq (rest_bar X c)) $$ Hp
  iapply ret_intro
  iapply h
  isplitr; · iexact HC
  isplitr [HR]
  · isplitl [HO]; · iexists _; iexact HO
    isplitl [Ha]; · iexact Ha
    iexact Hp
  iexact HR

/-! ## A wait for a transfer -/

/-- Device `c` waiting round `r` of its cells `g s`: for the devices `s` of `S` still to wait, for those of `D`
    waited and given what the round hands over. -/
def Wt (g : Dev nD → DmaSem sig) (r : ℕ) (c : Dev nD) (S D : Finset (Dev nD)) (O : CellTallies nD τ sig Unit) : sProp 𝕄 :=
  iprop(owesE c O
    ∗ (bigSep S fun s => iprop(cred (tallyAt ((c : Thread nD τ), .dma (g s)) () N) ∗ atPos ER ((c : Thread nD τ), .dma (g s)) r ∅ 0))
    ∗ bigSep D fun s => iprop(atPos ER ((c : Thread nD τ), .dma (g s)) (r + 1) ∅ 0 ∗ reached ER ((c : Thread nD τ), .dma (g s)) (r + 1)
        ∗ (sched X).payload ((c : Thread nD τ), .dma (g s)) r 0))

/-- A wait for one transfer. -/
theorem step_wait {g : Dev nD → DmaSem sig} {r : ℕ} {c t : Dev nD} {S D : Finset (Dev nD)} {O : CellTallies nD τ sig Unit} {b : ℕ}
    (hS : t ∈ S) (hD : t ∉ D) (hK : Ctx X ⊢ Known X ((c : Thread nD τ), .dma (g t)))
    (hd : (sched X).duties ((c : Thread nD τ), .dma (g t)) r = {0}) (hO : Above b O) (hb : lv ((c : Thread nD τ), .dma (g t)) () ≤ b)
    {sp sp' : Space} {s s' : Shape} {e : EltTy} {q : DmaSem sig} {src : Memref sig .tc sp s e} {dst : Memref sig .tc sp' s' e}
    {hs : src.view.WordExact} {hdw : dst.view.WordExact} (hq : q = g t) (hN : dst.view.dmaCredit = N)
    {R : sProp 𝕄} {Q : PUnit → sProp 𝕄} (h : iprop(Ctx X ∗ Wt X g r c (S.erase t) (insert t D) O ∗ R) ⊢ Q ⟨⟩) :
    iprop(Ctx X ∗ Wt X g r c S D O ∗ R) ⊢ WP c (Prog.lift (.waitDma2 q src dst hs hdw)) Q := by
  subst hq
  unfold Prog.lift
  unfold Wt owesE at h ⊢
  iintro ⟨#HC, ⟨⟨%W, HO⟩, HS, HD⟩, HR⟩
  ihave HS' := (take hS) $$ HS
  icases HS' with ⟨⟨Hc, Ha⟩, HS⟩
  ihave HK := hK $$ HC
  unfold Known
  icases HK with ⟨⟨%κ, HI⟩, Hr⟩
  rw [← hN]
  iapply (Rounds.wp_wait_rest_token 𝒱₀ ER (sched X) (c : Thread nD τ) none (κ := κ)
      (wpE_waitDma2_eq 𝒱₀ (c : Thread nD τ) none Set.univ) (Set.mem_univ _) () (O := O) (W := W) (R := r) (m := 0) (T := ∅)
      (by rw [expect_one X _ r (g t) rfl hd, hN, Nat.zero_add])) $$ [Hc HO Ha HI]
  · isplitl [HI]; · iexact HI
    isplitl [Hc]; · iexact Hc
    isplitl [HO]; · iexact HO
    isplitr
    · iapply (mayWait_of_above c _ O hO hb)
      iapply (ctx_lev X); iexact HC
    iexact Ha
  iintro ⟨HO, Ha, #Hr', Hp⟩
  rw [hN]
  ihave Hp := (Entails.of_eq (rest_one X _ r hd)) $$ Hp
  iapply ret_intro
  iapply h
  isplitr; · iexact HC
  isplitr [HR]
  · isplitl [HO]; · iexists _; iexact HO
    isplitl [HS]; · iexact HS
    iapply (put hD)
    isplitr [HD]
    · isplitl [Ha]; · iexact Ha
      isplitr; · iexact Hr'
      iexact Hp
    iexact HD
  iexact HR

/-! ## The transfers -/

/-- Device `c` sending staged rows: to the devices of `S` still to send, to those of `D` sent. -/
def Snd (c : Dev nD) (S D : Finset (Dev nD)) (O : CellTallies nD τ sig Unit) : sProp 𝕄 :=
  iprop(owesE c (O + owSum c S)
    ∗ (bigSep S fun t => iprop(dutyTok ER (sumC t c) 0 0 ∗ dutyTok ER (sendC c t) 0 0 ∗ ∃ f, sumPts t (slotOf c) f))
    ∗ bigSep D fun t => iprop(cred (tallyAt (sendC c t) () N)))

/-- A send of another device's staged rows. -/
theorem step_send {c t n : Dev nD} {S D : Finset (Dev nD)} {O : CellTallies nD τ sig Unit}
    (hS : t ∈ S) (hD : t ∉ D) (htc : t ≠ c) (hn : n = t)
    {o5 : Fin 2 → ℕ} {i5 : ∀ a, o5 a + S32x1024.size a ≤ S1024x1024.size a} (e5 : o5 = ![32 * t.val, 0])
    {o6 : Fin 3 → ℕ} {i6 : ∀ a, o6 a + S1x32x1024.size a ≤ S32x32x1024.size a} (e6 : o6 = ![c.val, 0, 0])
    {qs qr : DmaSem sig} (hs : qs = sendS t) (hr : qr = sumS c)
    {hsc : (sumV o6 i6).view.ref.isScScratch = false} {w1 : (stgV o5 i5).view.WordExact} {w2 : (sumV o6 i6).view.WordExact}
    {hm : DmaTarget.Typed .vmem (.dma qr) (.remote (Dev.tc n : Thread nD τ) (sumV o6 i6) (.dma qs) hsc)}
    {R : sProp 𝕄} {Q : PUnit → sProp 𝕄} (h : iprop(Ctx X ∗ Snd c (S.erase t) (insert t D) O ∗ R) ⊢ Q ⟨⟩) :
    iprop(Ctx X ∗ Snd c S D O ∗ stgPts c (rowsOf t) (X.stg c) ∗ R)
      ⊢ WP c (Prog.lift (.enqueueDma (stgV o5 i5) (.remote (Dev.tc n : Thread nD τ) (sumV o6 i6) (.dma qs) hsc) (.dma qr) w1 w2 hm)) Q := by
  subst hn e5 e6 hs hr
  unfold Prog.lift
  unfold Snd owesE at h ⊢
  iintro ⟨#HC, ⟨⟨%W, HO⟩, HS, HD⟩, Hst, HR⟩
  ihave HS' := (take hS) $$ HS
  icases HS' with ⟨⟨Ht2, Ht1, ⟨%fd, Hsl⟩⟩, HS⟩
  ihave HK1 := (ctx_send X c n) $$ HC
  ihave HK2 := (ctx_sum X n c) $$ HC
  unfold Known
  icases HK1 with ⟨⟨%κ1, HI1⟩, Hr1⟩
  icases HK2 with ⟨⟨%κ2, HI2⟩, Hr2⟩
  iapply (Rounds.wp_send_pointsTo 𝒱₀ ER (sched X) (c : Thread nD τ) none (κ₁ := κ1) (κ₂ := κ2) (c' := (n : Thread nD τ))
    (r₁ := 0) (r₂ := 0) (d₁ := 0) (d₂ := 0) (q := fullShare) (fs := X.stg c) (fd := fd)
    (by rw [duties_send X c htc (by decide)]; exact Finset.mem_singleton_self _)
    (by rw [duties_sum X n htc.symm]; exact Finset.mem_singleton_self _)
    () () N rfl rfl rfl (O + owSum c (S.erase n)) (by unfold owSum; rw [add_assoc, Finset.sum_erase_add _ _ hS]) (W := W)
    (by rw [payload_send, stgV_set]; unfold sendPay; rw [if_pos rfl]; exact BI.Entails.refl _)
    (by
      rw [payload_sum, sumV_set]; unfold sumPay sumPts
      exact Entails.of_eq (pointsTo_congr fun i hi => sum_landed X c n _ _ fd i hi))) $$ [HI1 HI2 Hst Hsl HO Ht1 Hr1 Ht2 Hr2]
  · isplitl [HI1]; · iexact HI1
    isplitl [HI2]; · iexact HI2
    isplitl [Hst]; · rw [stgV_set]; unfold stgPts; iexact Hst
    isplitl [Hsl]; · rw [sumV_set]; unfold sumPts; iexact Hsl
    isplitl [HO]; · iexact HO
    isplitl [Ht1]; · iexact Ht1
    isplitl [Hr1]; · iexact Hr1
    isplitl [Ht2]; · iexact Ht2
    iexact Hr2
  iintro ⟨Hc, HO⟩
  iapply ret_intro
  iapply h
  isplitr; · iexact HC
  isplitr [HR]
  · isplitl [HO]; · iexists W; iexact HO
    isplitl [HS]; · iexact HS
    iapply (put hD)
    isplitl [Hc]; · iexact Hc
    iexact HD
  iexact HR

/-- Device `c` sending its finished rows: to the devices of `S` still to send, to those of `D` sent. -/
def Fin2 (c : Dev nD) (S D : Finset (Dev nD)) : sProp 𝕄 :=
  iprop(owesE c (owRow c S)
    ∗ (bigSep S fun t => iprop(dutyTok ER (rowC t c) 0 0 ∗ dutyTok ER (sendC c t) 1 0 ∗ reached ER (sendC c t) 1
        ∗ (∃ f, rowPts t fullShare (slotOf c) f) ∗ rowPts c (shareTok fullShare 32 t) (slotOf c) X.fin))
    ∗ bigSep D fun t => iprop(cred (tallyAt (sendC c t) () N)))

/-- A send of the finished rows to another device. -/
theorem step_fin {c t n : Dev nD} {S D : Finset (Dev nD)}
    (hS : t ∈ S) (hD : t ∉ D) (htc : t ≠ c) (hn : n = t)
    {o7 o7' : Fin 3 → ℕ} {i7 : ∀ a, o7 a + S1x32x1024.size a ≤ S32x32x1024.size a} (e7 : o7 = ![c.val, 0, 0])
    {i7' : ∀ a, o7' a + S1x32x1024.size a ≤ S32x32x1024.size a} (e7' : o7' = ![c.val, 0, 0])
    {qs qr : DmaSem sig} (hs : qs = sendS t) (hr : qr = rowS c)
    {hsc : (rowV o7' i7').view.ref.isScScratch = false} {w1 : (rowV o7 i7).view.WordExact} {w2 : (rowV o7' i7').view.WordExact}
    {hm : DmaTarget.Typed .vmem (.dma qr) (.remote (Dev.tc n : Thread nD τ) (rowV o7' i7') (.dma qs) hsc)}
    {R : sProp 𝕄} {Q : PUnit → sProp 𝕄} (h : iprop(Ctx X ∗ Fin2 X c (S.erase t) (insert t D) ∗ R) ⊢ Q ⟨⟩) :
    iprop(Ctx X ∗ Fin2 X c S D ∗ R)
      ⊢ WP c (Prog.lift (.enqueueDma (rowV o7 i7) (.remote (Dev.tc n : Thread nD τ) (rowV o7' i7') (.dma qs) hsc) (.dma qr) w1 w2 hm)) Q := by
  subst hn e7 e7' hs hr
  unfold Prog.lift
  unfold Fin2 owesE at h ⊢
  iintro ⟨#HC, ⟨⟨%W, HO⟩, HS, HD⟩, HR⟩
  ihave HS' := (take hS) $$ HS
  icases HS' with ⟨⟨Ht2, Ht1, Hr1, ⟨%fd, Hsl⟩, Hst⟩, HS⟩
  ihave HK1 := (ctx_send X c n) $$ HC
  ihave HK2 := (ctx_row X n c) $$ HC
  unfold Known
  icases HK1 with ⟨⟨%κ1, HI1⟩, -⟩
  icases HK2 with ⟨⟨%κ2, HI2⟩, Hr2⟩
  iapply (Rounds.wp_send_pointsTo 𝒱₀ ER (sched X) (c : Thread nD τ) none (κ₁ := κ1) (κ₂ := κ2) (c' := (n : Thread nD τ))
    (r₁ := 1) (r₂ := 0) (d₁ := 0) (d₂ := 0) (q := shareTok fullShare 32 n) (fs := X.fin) (fd := fd)
    (by rw [duties_send X c htc (by decide)]; exact Finset.mem_singleton_self _)
    (by rw [duties_row X n htc.symm]; exact Finset.mem_singleton_self _)
    () () N rfl rfl rfl (owRow c (S.erase n)) (by unfold owRow; rw [Finset.sum_erase_add _ _ hS]) (W := W)
    (by rw [payload_send, rowV_set]; unfold sendPay; rw [if_neg (by decide)]; exact BI.Entails.refl _)
    (by
      rw [payload_row, rowV_set]; unfold rowPay rowPts
      exact Entails.of_eq (pointsTo_congr fun i hi => row_landed X c _ _ fd i hi))) $$ [HI1 HI2 Hst Hsl HO Ht1 Hr1 Ht2 Hr2]
  · isplitl [HI1]; · iexact HI1
    isplitl [HI2]; · iexact HI2
    isplitl [Hst]; · rw [rowV_set]; unfold rowPts; iexact Hst
    isplitl [Hsl]; · rw [rowV_set]; unfold rowPts; iexact Hsl
    isplitl [HO]; · iexact HO
    isplitl [Ht1]; · iexact Ht1
    isplitl [Hr1]; · iexact Hr1
    isplitl [Ht2]; · iexact Ht2
    iexact Hr2
  iintro ⟨Hc, HO⟩
  iapply ret_intro
  iapply h
  isplitr; · iexact HC
  isplitr [HR]
  · isplitl [HO]; · iexists W; iexact HO
    isplitl [HS]; · iexact HS
    iapply (put hD)
    isplitl [Hc]; · iexact Hc
    iexact HD
  iexact HR

end Cert.KernelIdeal.Dist
-- ==== Proof.Loops.lean ====
/-
  The devices a loop has yet to serve and those it has served, and the rule of one turn of each loop: the barrier's
  signals, the transfers of staged rows (in row order, the device's own block skipped), the waits for them to land,
  the waits for them to leave, the transfers of the finished rows and the waits for those.
-/
module

public import proofs.«01_k».proof.Proof.Steps

@[expose] public section

set_option maxRecDepth 16384

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Transfers (shareTok shareDrop)

variable {F : FTy → Type} [FloatOps F]

local notation "𝕄" => MT nD τ sig Unit (Elt F) ℕ UU ℕ

variable (X : Moved F)

/-! ## Loops over the other devices, starting at the next one -/

/-- The device `k` places after `c`. -/
abbrev nxt (c : Dev nD) (k : ℕ) : Dev nD := ⟨(c.val + k) % 32, Nat.mod_lt _ (by decide)⟩

/-- The other devices less than `k` places after `c`. -/
def gone (c : Dev nD) (k : ℕ) : Finset (Dev nD) := Finset.univ.filter fun t => t ≠ c ∧ (t.val + 32 - c.val) % 32 < k
/-- The other devices at least `k` places after `c`. -/
def rem (c : Dev nD) (k : ℕ) : Finset (Dev nD) := Finset.univ.filter fun t => t ≠ c ∧ k ≤ (t.val + 32 - c.val) % 32

/-- The devices done after `k` steps of a rotating loop. -/
theorem mem_gone {c t : Dev nD} {k : ℕ} : t ∈ gone c k ↔ t.val ≠ c.val ∧ (t.val + 32 - c.val) % 32 < k := by
  unfold gone; rw [Finset.mem_filter]; simp only [Finset.mem_univ, true_and, ne_eq, Fin.ext_iff]
/-- The devices left at step `k` of a rotating loop. -/
theorem mem_rem {c t : Dev nD} {k : ℕ} : t ∈ rem c k ↔ t.val ≠ c.val ∧ k ≤ (t.val + 32 - c.val) % 32 := by
  unfold rem; rw [Finset.mem_filter]; simp only [Finset.mem_univ, true_and, ne_eq, Fin.ext_iff]

/-- A rotating loop never reaches the device itself. -/
theorem nxt_ne {c : Dev nD} {k : ℕ} (hk : 1 ≤ k ∧ k < 32) : nxt c k ≠ c := by
  have hc : c.val < 32 := c.isLt
  rw [ne_eq, Fin.ext_iff]; show ¬ (c.val + k) % 32 = c.val; omega
/-- The next device is among those left. -/
theorem nxt_mem {c : Dev nD} {k : ℕ} (hk : 1 ≤ k ∧ k < 32) : nxt c k ∈ rem c k := by
  have hc : c.val < 32 := c.isLt
  rw [mem_rem]; show (c.val + k) % 32 ≠ c.val ∧ k ≤ ((c.val + k) % 32 + 32 - c.val) % 32; omega
/-- The next device is not among those done. -/
theorem nxt_notMem {c : Dev nD} {k : ℕ} (hk : 1 ≤ k ∧ k < 32) : nxt c k ∉ gone c k := by
  have hc : c.val < 32 := c.isLt
  rw [mem_gone]; show ¬ ((c.val + k) % 32 ≠ c.val ∧ ((c.val + k) % 32 + 32 - c.val) % 32 < k); omega
/-- Taking the next device away leaves those of the next step. -/
theorem rem_succ {c : Dev nD} {k : ℕ} (hk : 1 ≤ k ∧ k < 32) : (rem c k).erase (nxt c k) = rem c (k + 1) := by
  have hc : c.val < 32 := c.isLt
  ext t
  have ht : t.val < 32 := t.isLt
  rw [Finset.mem_erase, mem_rem, mem_rem, ne_eq, Fin.ext_iff]
  show ¬ t.val = (c.val + k) % 32 ∧ _ ↔ _
  omega
/-- Adding the next device gives those done at the next step. -/
theorem gone_succ {c : Dev nD} {k : ℕ} (hk : 1 ≤ k ∧ k < 32) : insert (nxt c k) (gone c k) = gone c (k + 1) := by
  have hc : c.val < 32 := c.isLt
  ext t
  have ht : t.val < 32 := t.isLt
  rw [Finset.mem_insert, mem_gone, mem_gone, Fin.ext_iff]
  show t.val = (c.val + k) % 32 ∨ _ ↔ _
  omega
/-- At the start all other devices are left. -/
theorem rem_one (c : Dev nD) : rem c 1 = Finset.univ.erase c := by
  have hc : c.val < 32 := c.isLt
  ext t
  have ht : t.val < 32 := t.isLt
  rw [mem_rem, Finset.mem_erase]
  simp only [Finset.mem_univ, and_true, ne_eq, Fin.ext_iff]
  omega
/-- At the end none is left. -/
theorem rem_last (c : Dev nD) : rem c 32 = ∅ := by
  ext t; rw [mem_rem]; simp only [Finset.notMem_empty, iff_false]; omega
/-- At the start none is done. -/
theorem gone_one (c : Dev nD) : gone c 1 = ∅ := by
  have hc : c.val < 32 := c.isLt
  ext t
  have ht : t.val < 32 := t.isLt
  rw [mem_gone]; simp only [Finset.notMem_empty, iff_false]; omega
/-- At the end all other devices are done. -/
theorem gone_last (c : Dev nD) : gone c 32 = Finset.univ.erase c := by
  ext t
  rw [mem_gone, Finset.mem_erase]
  simp only [Finset.mem_univ, and_true, ne_eq, Fin.ext_iff]
  omega

/-! ## Loops over the devices in order, the device itself skipped -/

/-- The other devices before `k`. -/
def past (c : Dev nD) (k : ℕ) : Finset (Dev nD) := Finset.univ.filter fun t => t ≠ c ∧ t.val < k
/-- The other devices from `k` on. -/
def ahead (c : Dev nD) (k : ℕ) : Finset (Dev nD) := Finset.univ.filter fun t => t ≠ c ∧ k ≤ t.val

/-- The devices done after `k` steps of a straight loop. -/
theorem mem_past {c t : Dev nD} {k : ℕ} : t ∈ past c k ↔ t.val ≠ c.val ∧ t.val < k := by
  unfold past; rw [Finset.mem_filter]; simp only [Finset.mem_univ, true_and, ne_eq, Fin.ext_iff]
/-- The devices left at step `k` of a straight loop. -/
theorem mem_ahead {c t : Dev nD} {k : ℕ} : t ∈ ahead c k ↔ t.val ≠ c.val ∧ k ≤ t.val := by
  unfold ahead; rw [Finset.mem_filter]; simp only [Finset.mem_univ, true_and, ne_eq, Fin.ext_iff]

/-- The device of the step is among those left, when it is not the device itself. -/
theorem ahead_mem {c : Dev nD} {k : ℕ} (hk : k < 32) (hc : c.val ≠ k) : (⟨k, hk⟩ : Dev nD) ∈ ahead c k := by
  rw [mem_ahead]; show k ≠ c.val ∧ k ≤ k; omega
/-- The device of the step is not among those done. -/
theorem past_notMem {c : Dev nD} {k : ℕ} (hk : k < 32) : (⟨k, hk⟩ : Dev nD) ∉ past c k := by
  rw [mem_past]; show ¬ (k ≠ c.val ∧ k < k); omega
/-- Taking the device of the step away leaves those of the next step. -/
theorem ahead_succ {c : Dev nD} {k : ℕ} (hk : k < 32) : (ahead c k).erase (⟨k, hk⟩ : Dev nD) = ahead c (k + 1) := by
  ext t
  rw [Finset.mem_erase, mem_ahead, mem_ahead, ne_eq, Fin.ext_iff]
  show ¬ t.val = k ∧ _ ↔ _
  omega
/-- Adding the device of the step gives those done at the next step. -/
theorem past_succ {c : Dev nD} {k : ℕ} (hk : k < 32) (hc : c.val ≠ k) : insert (⟨k, hk⟩ : Dev nD) (past c k) = past c (k + 1) := by
  ext t
  rw [Finset.mem_insert, mem_past, mem_past, Fin.ext_iff]
  show t.val = k ∨ _ ↔ _
  omega
/-- The device's own step takes nothing from those left. -/
theorem ahead_own {c : Dev nD} {k : ℕ} (hc : c.val = k) : ahead c k = ahead c (k + 1) := by
  ext t; rw [mem_ahead, mem_ahead]; omega
/-- The device's own step adds nothing to those done. -/
theorem past_own {c : Dev nD} {k : ℕ} (hc : c.val = k) : past c k = past c (k + 1) := by
  ext t; rw [mem_past, mem_past]; omega
/-- At the start all other devices are left. -/
theorem ahead_zero (c : Dev nD) : ahead c 0 = Finset.univ.erase c := by
  ext t; rw [mem_ahead, Finset.mem_erase]; simp only [Finset.mem_univ, and_true, ne_eq, Fin.ext_iff]; omega
/-- At the end none is left. -/
theorem ahead_last (c : Dev nD) : ahead c 32 = ∅ := by
  ext t
  have ht : t.val < 32 := t.isLt
  rw [mem_ahead]; simp only [Finset.notMem_empty, iff_false]; omega
/-- At the start none is done. -/
theorem past_zero (c : Dev nD) : past c 0 = ∅ := by
  ext t; rw [mem_past]; simp only [Finset.notMem_empty, iff_false]; omega
/-- At the end all other devices are done. -/
theorem past_last (c : Dev nD) : past c 32 = Finset.univ.erase c := by
  ext t
  have ht : t.val < 32 := t.isLt
  rw [mem_past, Finset.mem_erase]; simp only [Finset.mem_univ, and_true, ne_eq, Fin.ext_iff]; omega

/-! ## The rows of the staging buffer -/

/-- The rows before block `b` (of 256) that are still there when the first `k` groups of 32 rows have been sent. -/
def left (c : Dev nD) (k b : ℕ) : Finset S1024x1024.Idx :=
  Finset.univ.filter fun p => (p 0).val < 256 * b ∧ (32 * k ≤ (p 0).val ∨ (p 0).val / 32 = c.val)
/-- The rows from block `b` on. -/
def above (b : ℕ) : Finset S1024x1024.Idx := Finset.univ.filter fun p => 256 * b ≤ (p 0).val
/-- The rows of block `b`. -/
def block (b : ℕ) : Finset S1024x1024.Idx := Finset.univ.filter fun p => 256 * b ≤ (p 0).val ∧ (p 0).val < 256 * (b + 1)

/-- The staged rows still here are the next device's and the rest. -/
theorem left_split (c : Dev nD) {k b : ℕ} (hk : k < 32) (hc : c.val ≠ k) (hb : k < 8 * b) :
    left c k b = rowsOf ⟨k, hk⟩ ∪ left c (k + 1) b := by
  ext p
  unfold left rowsOf
  simp only [Finset.mem_union, Finset.mem_filter, Finset.mem_univ, true_and]
  omega
/-- The next device's rows are apart from the rest. -/
theorem left_disj (c : Dev nD) {k b : ℕ} (hk : k < 32) (hc : c.val ≠ k) : Disjoint (rowsOf ⟨k, hk⟩) (left c (k + 1) b) := by
  rw [Finset.disjoint_left]
  intro p
  unfold left rowsOf
  simp only [Finset.mem_filter, Finset.mem_univ, true_and]
  omega
/-- The device's own step sends no row away. -/
theorem left_own {c : Dev nD} {k b : ℕ} (hc : c.val = k) : left c k b = left c (k + 1) b := by
  ext p
  unfold left
  simp only [Finset.mem_filter, Finset.mem_univ, true_and]
  omega
/-- Before the first block no row is staged. -/
theorem left_zero (c : Dev nD) (k : ℕ) : left c k 0 = ∅ := by
  ext p
  unfold left
  simp only [Finset.mem_filter, Finset.mem_univ, true_and, Finset.notMem_empty, iff_false]
  omega
/-- At the end only the device's own rows are still here. -/
theorem left_last (c : Dev nD) : left c 32 4 = rowsOf c := by
  have hc : c.val < 32 := c.isLt
  ext p
  unfold left rowsOf
  simp only [Finset.mem_filter, Finset.mem_univ, true_and]
  omega
/-- The rows not yet staged are the next block and the ones above. -/
theorem above_split (b : ℕ) : above b = block b ∪ above (b + 1) := by
  ext p
  unfold above block
  simp only [Finset.mem_union, Finset.mem_filter, Finset.mem_univ, true_and]
  omega
/-- The next block is apart from the ones above. -/
theorem above_disj (b : ℕ) : Disjoint (block b) (above (b + 1)) := by
  rw [Finset.disjoint_left]
  intro p
  unfold above block
  simp only [Finset.mem_filter, Finset.mem_univ, true_and]
  omega
/-- Staging a block adds its rows to the ones here. -/
theorem left_block (c : Dev nD) (b : ℕ) : left c (8 * b) (b + 1) = left c (8 * b) b ∪ block b := by
  ext p
  unfold left block
  simp only [Finset.mem_union, Finset.mem_filter, Finset.mem_univ, true_and]
  omega
/-- The rows here are apart from the block to be staged. -/
theorem left_block_disj (c : Dev nD) (k b : ℕ) : Disjoint (left c k b) (block b) := by
  rw [Finset.disjoint_left]
  intro p
  unfold left block
  simp only [Finset.mem_filter, Finset.mem_univ, true_and]
  omega
/-- At the start no row is staged. -/
theorem above_zero : above 0 = Finset.univ := by
  ext p; unfold above; simp only [Finset.mem_filter, Finset.mem_univ, true_and, iff_true]; omega
/-- After four blocks every row is staged. -/
theorem above_last : above 4 = ∅ := by
  ext p
  have hp : (p 0).val < 1024 := (p 0).isLt
  unfold above; simp only [Finset.mem_filter, Finset.mem_univ, true_and, Finset.notMem_empty, iff_false]; omega

/-- The rectangle of a block covers that block. -/
theorem block_rect (b : ℕ) (h : ∀ a, (![256 * b, 0] : Fin 2 → ℕ) a + S256x1024.size a ≤ S1024x1024.size a) :
    (Rect.unit (s := S1024x1024) ![256 * b, 0] S256x1024.size h).set = block b := by
  ext p
  rw [Rect.mem_set_unit]
  unfold block
  simp only [Finset.mem_filter, Finset.mem_univ, true_and]
  have p1 : (p 1).val < 1024 := (p 1).isLt
  constructor
  · intro hp
    have h0 := hp 0
    have h1 : 256 * b ≤ (p 0).val := h0.1
    have h2 : (p 0).val < 256 * b + 256 := h0.2
    omega
  · rintro hp a
    match a with
    | ⟨0, _⟩ => exact ⟨(by show 256 * b ≤ (p 0).val; omega), (by show (p 0).val < 256 * b + 256; omega)⟩
    | ⟨1, _⟩ => exact ⟨Nat.zero_le _, (by show (p 1).val < 0 + 1024; omega)⟩

/-! ## The printed addresses and conditions, by the loop's counter -/

/-- The offset of a rotating wait is the number of the device waited for. -/
theorem off67_at (c : Dev nD) {k : ℕ} (hk : 1 ≤ k ∧ k < 32) : k0_off67 c (BitVec.ofNat 32 k) = ![(c.val + k) % 32] := by
  have h := k0_off67_eq c ⟨k - 1, by omega⟩
  have e : 1 + (k - 1) = k := by omega
  have e' : c.val + (k - 1) + 1 = c.val + k := by omega
  simpa only [e, e'] using h

/-- The device the `k`-th signal goes to, as printed. -/
def sigTab (c : Dev nD) : Fin 31 → ℕ :=
  ![k0_dev1 c, k0_dev2 c, k0_dev3 c, k0_dev4 c, k0_dev5 c, k0_dev6 c, k0_dev7 c, k0_dev8 c, k0_dev9 c, k0_dev10 c, k0_dev11 c,
    k0_dev12 c, k0_dev13 c, k0_dev14 c, k0_dev15 c, k0_dev16 c, k0_dev17 c, k0_dev18 c, k0_dev19 c, k0_dev20 c, k0_dev21 c,
    k0_dev22 c, k0_dev23 c, k0_dev24 c, k0_dev25 c, k0_dev26 c, k0_dev27 c, k0_dev28 c, k0_dev29 c, k0_dev30 c, k0_dev31 c]
/-- The device the `k`-th transfer of finished rows goes to, as printed. -/
def finTab (c : Dev nD) : Fin 31 → ℕ :=
  ![k0_dev64 c, k0_dev65 c, k0_dev66 c, k0_dev67 c, k0_dev68 c, k0_dev69 c, k0_dev70 c, k0_dev71 c, k0_dev72 c, k0_dev73 c, k0_dev74 c,
    k0_dev75 c, k0_dev76 c, k0_dev77 c, k0_dev78 c, k0_dev79 c, k0_dev80 c, k0_dev81 c, k0_dev82 c, k0_dev83 c, k0_dev84 c,
    k0_dev85 c, k0_dev86 c, k0_dev87 c, k0_dev88 c, k0_dev89 c, k0_dev90 c, k0_dev91 c, k0_dev92 c, k0_dev93 c, k0_dev94 c]
/-- The device the rows of block `k` go to, as printed. -/
def sndTab : Fin 32 → ℕ :=
  ![k0_dev32, k0_dev33, k0_dev34, k0_dev35, k0_dev36, k0_dev37, k0_dev38, k0_dev39, k0_dev40, k0_dev41, k0_dev42, k0_dev43, k0_dev44,
    k0_dev45, k0_dev46, k0_dev47, k0_dev48, k0_dev49, k0_dev50, k0_dev51, k0_dev52, k0_dev53, k0_dev54, k0_dev55, k0_dev56, k0_dev57,
    k0_dev58, k0_dev59, k0_dev60, k0_dev61, k0_dev62, k0_dev63]
/-- Whether block `k` is sent, as printed. -/
def sndIf (c : Dev nD) : Fin 32 → BitVec 1 :=
  ![k0_cond1 c, k0_cond2 c, k0_cond3 c, k0_cond4 c, k0_cond5 c, k0_cond6 c, k0_cond7 c, k0_cond8 c, k0_cond9 c, k0_cond10 c, k0_cond11 c,
    k0_cond12 c, k0_cond13 c, k0_cond14 c, k0_cond15 c, k0_cond16 c, k0_cond17 c, k0_cond18 c, k0_cond19 c, k0_cond20 c, k0_cond21 c,
    k0_cond22 c, k0_cond23 c, k0_cond24 c, k0_cond25 c, k0_cond26 c, k0_cond27 c, k0_cond28 c, k0_cond29 c, k0_cond30 c, k0_cond31 c,
    k0_cond32 c]
/-- Whether the sending of block `k` is waited for, as printed. -/
def lvsIf (c : Dev nD) : Fin 32 → BitVec 1 :=
  ![k0_cond33 c, k0_cond34 c, k0_cond35 c, k0_cond36 c, k0_cond37 c, k0_cond38 c, k0_cond39 c, k0_cond40 c, k0_cond41 c, k0_cond42 c,
    k0_cond43 c, k0_cond44 c, k0_cond45 c, k0_cond46 c, k0_cond47 c, k0_cond48 c, k0_cond49 c, k0_cond50 c, k0_cond51 c, k0_cond52 c,
    k0_cond53 c, k0_cond54 c, k0_cond55 c, k0_cond56 c, k0_cond57 c, k0_cond58 c, k0_cond59 c, k0_cond60 c, k0_cond61 c, k0_cond62 c,
    k0_cond63 c, k0_cond64 c]

/-- The devices signalled, in order. -/
theorem sigTab_eq : ∀ (c : Dev nD) (i : Fin 31), sigTab c i = (c.val + (i.val + 1)) % 32 := by decide +kernel
/-- The devices sent the finished rows, in order. -/
theorem finTab_eq : ∀ (c : Dev nD) (i : Fin 31), finTab c i = (c.val + (i.val + 1)) % 32 := by decide +kernel
/-- The devices sent the staged rows, in order. -/
theorem sndTab_eq : ∀ i : Fin 32, sndTab i = i.val := by decide +kernel
/-- A staged send is skipped exactly at the device itself. -/
theorem sndIf_iff : ∀ (c : Dev nD) (i : Fin 32), sndIf c i = 1#1 ↔ c.val ≠ i.val := by decide +kernel
/-- A wait for a staged send is skipped exactly at the device itself. -/
theorem lvsIf_iff : ∀ (c : Dev nD) (i : Fin 32), lvsIf c i = 1#1 ↔ c.val ≠ i.val := by decide +kernel

/-! ## One turn of each loop -/

/-- A first part proved with the rest as its goal proves the whole. -/
theorem bind_step {c : Dev nD} {α β : Type} {p : Prog (TpuEff nD τ sig (Elt F) Λ₀ .tc) α}
    {k : α → Prog (TpuEff nD τ sig (Elt F) Λ₀ .tc) β} {Q : β → sProp 𝕄} {P : sProp 𝕄}
    (h : P ⊢ WP c p fun a => WP c (k a) Q) : P ⊢ WP c (p >>= k) Q := by
  rw [WP_bind]; exact h

/-- The `k`-th signal of the barrier. -/
theorem sig_at {c n : Dev nD} {k : ℕ} {O : CellTallies nD τ sig Unit} (hk : 1 ≤ k ∧ k < 32)
    (hn : n.val = sigTab c ⟨k - 1, by omega⟩)
    {R : sProp 𝕄} {Q : PUnit → sProp 𝕄} (h : iprop(Ctx X ∗ Sig c (rem c (k + 1)) O ∗ R) ⊢ Q ⟨⟩) :
    iprop(Ctx X ∗ Sig c (rem c k) O ∗ R) ⊢ WP c (semSignalWord n barS 1#32) Q := by
  refine step_signal X (t := nxt c k) (nxt_mem hk) (nxt_ne hk).symm ?_ (by rw [rem_succ hk]; exact h)
  apply Fin.ext
  rw [hn, sigTab_eq]
  show (c.val + (k - 1 + 1)) % 32 = (c.val + k) % 32
  congr 2; omega

/-- The `k`-th wait for a block of rows to land. -/
theorem sum_at {c : Dev nD} {k : ℕ} {O : CellTallies nD τ sig Unit} (hk : 1 ≤ k ∧ k < 32) (hO : Above 2 O)
    {i : ∀ a, k0_off67 c (BitVec.ofNat 32 k) a + S1.size a ≤ S32.size a}
    {sp sp' : Space} {s s' : Shape} {e : EltTy} {src : Memref sig .tc sp s e} {dst : Memref sig .tc sp' s' e}
    {hs : src.view.WordExact} {hdw : dst.view.WordExact} (hN : dst.view.dmaCredit = N)
    {R : sProp 𝕄} {Q : PUnit → sProp 𝕄}
    (h : iprop(Ctx X ∗ Wt X sumS 0 c (rem c (k + 1)) (gone c (k + 1)) O ∗ R) ⊢ Q ⟨⟩) :
    iprop(Ctx X ∗ Wt X sumS 0 c (rem c k) (gone c k) O ∗ R)
      ⊢ WP c (Prog.lift (.waitDma2 ((cc0_scratch4.slice (Rect.unit (s := S32) (k0_off67 c (BitVec.ofNat 32 k)) S1.size i)).squeeze S_ squeezes_S1_S_).sem src dst hs hdw)) Q := by
  refine step_wait X (g := sumS) (t := nxt c k) (nxt_mem hk) (nxt_notMem hk) (ctx_sum X c _)
    (duties_sum X c (nxt_ne hk)) hO (le_of_eq (lv_sum ..)) ?_ hN (by rw [rem_succ hk, gone_succ hk]; exact h)
  generalize ho : k0_off67 c (BitVec.ofNat 32 k) = o at i
  rw [off67_at c hk] at ho
  subst ho
  exact sem_sum _ _ _

/-- The `k`-th wait for a block of finished rows to land. -/
theorem row_at {c : Dev nD} {k : ℕ} {O : CellTallies nD τ sig Unit} (hk : 1 ≤ k ∧ k < 32) (hO : Above 3 O)
    {i : ∀ a, k0_off67 c (BitVec.ofNat 32 k) a + S1.size a ≤ S32.size a}
    {sp sp' : Space} {s s' : Shape} {e : EltTy} {src : Memref sig .tc sp s e} {dst : Memref sig .tc sp' s' e}
    {hs : src.view.WordExact} {hdw : dst.view.WordExact} (hN : dst.view.dmaCredit = N)
    {R : sProp 𝕄} {Q : PUnit → sProp 𝕄}
    (h : iprop(Ctx X ∗ Wt X rowS 0 c (rem c (k + 1)) (gone c (k + 1)) O ∗ R) ⊢ Q ⟨⟩) :
    iprop(Ctx X ∗ Wt X rowS 0 c (rem c k) (gone c k) O ∗ R)
      ⊢ WP c (Prog.lift (.waitDma2 ((cc0_scratch5.slice (Rect.unit (s := S32) (k0_off67 c (BitVec.ofNat 32 k)) S1.size i)).squeeze S_ squeezes_S1_S_).sem src dst hs hdw)) Q := by
  refine step_wait X (g := rowS) (t := nxt c k) (nxt_mem hk) (nxt_notMem hk) (ctx_row X c _)
    (duties_row X c (nxt_ne hk)) hO (le_of_eq (lv_row ..)) ?_ hN (by rw [rem_succ hk, gone_succ hk]; exact h)
  generalize ho : k0_off67 c (BitVec.ofNat 32 k) = o at i
  rw [off67_at c hk] at ho
  subst ho
  exact sem_row _ _ _

/-- The `k`-th wait for a transfer of finished rows to have left. -/
theorem out_at {c : Dev nD} {k : ℕ} {O : CellTallies nD τ sig Unit} (hk : 1 ≤ k ∧ k < 32) (hO : Above 3 O)
    {i : ∀ a, k0_off67 c (BitVec.ofNat 32 k) a + S1.size a ≤ S32.size a}
    {sp sp' : Space} {s s' : Shape} {e : EltTy} {src : Memref sig .tc sp s e} {dst : Memref sig .tc sp' s' e}
    {hs : src.view.WordExact} {hdw : dst.view.WordExact} (hN : dst.view.dmaCredit = N)
    {R : sProp 𝕄} {Q : PUnit → sProp 𝕄}
    (h : iprop(Ctx X ∗ Wt X sendS 1 c (rem c (k + 1)) (gone c (k + 1)) O ∗ R) ⊢ Q ⟨⟩) :
    iprop(Ctx X ∗ Wt X sendS 1 c (rem c k) (gone c k) O ∗ R)
      ⊢ WP c (Prog.lift (.waitDma2 ((cc0_scratch3.slice (Rect.unit (s := S32) (k0_off67 c (BitVec.ofNat 32 k)) S1.size i)).squeeze S_ squeezes_S1_S_).sem src dst hs hdw)) Q := by
  refine step_wait X (g := sendS) (t := nxt c k) (nxt_mem hk) (nxt_notMem hk) (ctx_send X c _)
    (duties_send X c (nxt_ne hk) (by decide)) hO (le_trans (le_of_eq (lv_send ..)) (by decide)) ?_ hN (by rw [rem_succ hk, gone_succ hk]; exact h)
  generalize ho : k0_off67 c (BitVec.ofNat 32 k) = o at i
  rw [off67_at c hk] at ho
  subst ho
  exact sem_send _ _ _

/-- Block `k` of the staged rows is sent to device `k`, unless that is the device itself. -/
theorem snd_at {c : Dev nD} {k b : ℕ} {O : CellTallies nD τ sig Unit} (hk : k < 32) (hb : k < 8 * b)
    {cond : BitVec 1} (hc : cond = sndIf c ⟨k, hk⟩) {n : cond = 1#1 → Dev nD} (hn : ∀ h, (n h).val = sndTab ⟨k, hk⟩)
    {o5 : Fin 2 → ℕ} {i5 : ∀ a, o5 a + S32x1024.size a ≤ S1024x1024.size a} (e5 : o5 = ![32 * k, 0])
    {o6 : Fin 3 → ℕ} {i6 : cond = 1#1 → ∀ a, o6 a + S1x32x1024.size a ≤ S32x32x1024.size a} (e6 : o6 = ![c.val, 0, 0])
    {o8 : Fin 1 → ℕ} {i8 : ∀ a, o8 a + S1.size a ≤ S32.size a} (e8 : o8 = ![k])
    {o9 : Fin 1 → ℕ} {i9 : cond = 1#1 → ∀ a, o9 a + S1.size a ≤ S32.size a} (e9 : o9 = ![c.val])
    {hsc : ∀ h : cond = 1#1, (sumV o6 (i6 h)).view.ref.isScScratch = false} {w1 : (stgV o5 i5).view.WordExact}
    {w2 : ∀ h : cond = 1#1, (sumV o6 (i6 h)).view.WordExact}
    {hm : ∀ h : cond = 1#1, DmaTarget.Typed .vmem (.dma ((cc0_scratch4.slice (Rect.unit (s := S32) o9 S1.size (i9 h))).squeeze S_ squeezes_S1_S_).sem)
      (.remote (Dev.tc (n h) : Thread nD τ) (sumV o6 (i6 h)) (.dma ((cc0_scratch3.slice (Rect.unit (s := S32) o8 S1.size i8)).squeeze S_ squeezes_S1_S_).sem) (hsc h))}
    {α : Type} {K : Prog (TpuEff nD τ sig (Elt F) Λ₀ .tc) α} {R : sProp 𝕄} {Q : α → sProp 𝕄}
    (h : iprop(Ctx X ∗ Snd c (ahead c (k + 1)) (past c (k + 1)) O ∗ stgPts c (left c (k + 1) b) (X.stg c) ∗ R) ⊢ WP c K Q) :
    iprop(Ctx X ∗ Snd c (ahead c k) (past c k) O ∗ stgPts c (left c k b) (X.stg c) ∗ R)
      ⊢ WP c (if h : cond = 1#1 then
          (Prog.lift (.enqueueDma (stgV o5 i5) (.remote (Dev.tc (n h) : Thread nD τ) (sumV o6 (i6 h))
            (.dma ((cc0_scratch3.slice (Rect.unit (s := S32) o8 S1.size i8)).squeeze S_ squeezes_S1_S_).sem) (hsc h))
            (.dma ((cc0_scratch4.slice (Rect.unit (s := S32) o9 S1.size (i9 h))).squeeze S_ squeezes_S1_S_).sem) w1 (w2 h) (hm h))
            >>= fun _ => K) else K) Q := by
  subst hc
  refine cond_step ?_ ?_
  · intro hA
    have hck : c.val ≠ k := (sndIf_iff c ⟨k, hk⟩).mp hA
    refine bind_step ?_
    have hsp : stgPts c (left c k b) (X.stg c) ⊢ iprop(stgPts c (rowsOf ⟨k, hk⟩) (X.stg c) ∗ stgPts c (left c (k + 1) b) (X.stg c)) := by
      rw [left_split c hk hck hb]
      unfold stgPts
      exact (pointsTo_union (left_disj c hk hck)).1
    refine (show _ ⊢ iprop(Ctx X ∗ Snd c (ahead c k) (past c k) O ∗ stgPts c (rowsOf ⟨k, hk⟩) (X.stg c) ∗ (stgPts c (left c (k + 1) b) (X.stg c) ∗ R)) from ?_).trans ?_
    · iintro ⟨HC, HS, HT, HR⟩
      ihave HT' := hsp $$ HT
      icases HT' with ⟨HT1, HT2⟩
      isplitl [HC]; · iexact HC
      isplitl [HS]; · iexact HS
      isplitl [HT1]; · iexact HT1
      isplitl [HT2]; · iexact HT2
      iexact HR
    refine step_send X (t := ⟨k, hk⟩) (ahead_mem hk hck) (past_notMem hk) (fun e => hck (by rw [← e])) ?_ e5 e6 ?_ ?_ ?_
    · apply Fin.ext; rw [hn, sndTab_eq]
    · subst e8; exact sem_send _ _ _
    · subst e9; exact sem_sum _ _ _
    · rw [ahead_succ hk, past_succ hk hck]
      exact h
  · intro hB
    have hck : c.val = k := by
      by_contra hne
      exact hB ((sndIf_iff c ⟨k, hk⟩).mpr hne)
    rw [← ahead_own hck, ← past_own hck, ← left_own hck] at h
    exact h

/-- The wait for block `k` of the staged rows to have left, unless it is the device's own. -/
theorem lvs_at {c : Dev nD} {k : ℕ} {O : CellTallies nD τ sig Unit} (hk : k < 32) (hO : Above 2 O)
    {cond : BitVec 1} (hc : cond = lvsIf c ⟨k, hk⟩)
    {o8 : Fin 1 → ℕ} {i8 : ∀ a, o8 a + S1.size a ≤ S32.size a} (e8 : o8 = ![k])
    {sp sp' : Space} {s s' : Shape} {e : EltTy} {src : cond = 1#1 → Memref sig .tc sp s e} {dst : Memref sig .tc sp' s' e}
    {hs : ∀ h, (src h).view.WordExact} {hdw : dst.view.WordExact} (hN : dst.view.dmaCredit = N)
    {α : Type} {K : Prog (TpuEff nD τ sig (Elt F) Λ₀ .tc) α} {R : sProp 𝕄} {Q : α → sProp 𝕄}
    (h : iprop(Ctx X ∗ Wt X sendS 0 c (ahead c (k + 1)) (past c (k + 1)) O ∗ R) ⊢ WP c K Q) :
    iprop(Ctx X ∗ Wt X sendS 0 c (ahead c k) (past c k) O ∗ R)
      ⊢ WP c (if h : cond = 1#1 then
          (Prog.lift (.waitDma2 ((cc0_scratch3.slice (Rect.unit (s := S32) o8 S1.size i8)).squeeze S_ squeezes_S1_S_).sem (src h) dst (hs h) hdw)
            >>= fun _ => K) else K) Q := by
  subst hc
  refine cond_step ?_ ?_
  · intro hA
    have hck : c.val ≠ k := (lvsIf_iff c ⟨k, hk⟩).mp hA
    refine bind_step ?_
    refine step_wait X (g := sendS) (t := ⟨k, hk⟩) (ahead_mem hk hck) (past_notMem hk) (ctx_send X c _)
      (duties_send X c (fun e => hck (by rw [← e])) (by decide)) hO (le_trans (le_of_eq (lv_send ..)) (by decide)) ?_ hN ?_
    · subst e8; exact sem_send _ _ _
    · rw [ahead_succ hk, past_succ hk hck]
      exact h
  · intro hB
    have hck : c.val = k := by
      by_contra hne
      exact hB ((lvsIf_iff c ⟨k, hk⟩).mpr hne)
    rw [← ahead_own hck, ← past_own hck] at h
    exact h

/-- The `k`-th transfer of the finished rows. -/
theorem fin_at {c n : Dev nD} {k : ℕ} (hk : 1 ≤ k ∧ k < 32) (hn : n.val = finTab c ⟨k - 1, by omega⟩)
    {o7 o7' : Fin 3 → ℕ} {i7 : ∀ a, o7 a + S1x32x1024.size a ≤ S32x32x1024.size a} (e7 : o7 = ![c.val, 0, 0])
    {i7' : ∀ a, o7' a + S1x32x1024.size a ≤ S32x32x1024.size a} (e7' : o7' = ![c.val, 0, 0])
    {i8 : ∀ a, k0_off67 c (BitVec.ofNat 32 k) a + S1.size a ≤ S32.size a}
    {o9 : Fin 1 → ℕ} {i9 : ∀ a, o9 a + S1.size a ≤ S32.size a} (e9 : o9 = ![c.val])
    {hsc : (rowV o7' i7').view.ref.isScScratch = false} {w1 : (rowV o7 i7).view.WordExact} {w2 : (rowV o7' i7').view.WordExact}
    {hm : DmaTarget.Typed .vmem (.dma ((cc0_scratch5.slice (Rect.unit (s := S32) o9 S1.size i9)).squeeze S_ squeezes_S1_S_).sem)
      (.remote (Dev.tc n : Thread nD τ) (rowV o7' i7') (.dma ((cc0_scratch3.slice (Rect.unit (s := S32) (k0_off67 c (BitVec.ofNat 32 k)) S1.size i8)).squeeze S_ squeezes_S1_S_).sem) hsc)}
    {R : sProp 𝕄} {Q : PUnit → sProp 𝕄} (h : iprop(Ctx X ∗ Fin2 X c (rem c (k + 1)) (gone c (k + 1)) ∗ R) ⊢ Q ⟨⟩) :
    iprop(Ctx X ∗ Fin2 X c (rem c k) (gone c k) ∗ R)
      ⊢ WP c (Prog.lift (.enqueueDma (rowV o7 i7) (.remote (Dev.tc n : Thread nD τ) (rowV o7' i7')
          (.dma ((cc0_scratch3.slice (Rect.unit (s := S32) (k0_off67 c (BitVec.ofNat 32 k)) S1.size i8)).squeeze S_ squeezes_S1_S_).sem) hsc)
          (.dma ((cc0_scratch5.slice (Rect.unit (s := S32) o9 S1.size i9)).squeeze S_ squeezes_S1_S_).sem) w1 w2 hm)) Q := by
  refine step_fin X (t := nxt c k) (nxt_mem hk) (nxt_notMem hk) (nxt_ne hk) ?_ e7 e7' ?_ ?_ (by rw [rem_succ hk, gone_succ hk]; exact h)
  · apply Fin.ext
    rw [hn, finTab_eq]
    show (c.val + (k - 1 + 1)) % 32 = (c.val + k) % 32
    congr 2; omega
  · clear hm
    generalize ho : k0_off67 c (BitVec.ofNat 32 k) = o at i8
    rw [off67_at c hk] at ho
    subst ho
    exact sem_send _ _ _
  · clear hm
    subst e9; exact sem_row _ _ _

end Cert.KernelIdeal.Dist
-- ==== Proof.Memory.lean ====
/-
  What a device reads and writes of its own buffers: the blocks of its operands, the four blocks of rows it stages,
  its own slots of the landing and gathering buffers, and the output.
-/
module

public import proofs.«01_k».proof.Proof.Loops

@[expose] public section

set_option maxRecDepth 16384

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Transfers (shareTok shareDrop)

variable {F : FTy → Type} [FloatOps F]

local notation "𝕄" => MT nD τ sig Unit (Elt F) ℕ UU ℕ

variable (X : Moved F)

/-! ## The operands a device reads, and what it computes of them -/

/-- The three operands the body reads: the tokens, their experts' numbers, and the device's four experts. -/
structure Inp (F : FTy → Type) where
  x : Vec F S1024x512 .f32
  idx : Vec F S1024x1 .i32
  w : Vec F S4x512x1024 .f32

/-- Block `b` of the tokens. -/
def xBlk (I : Inp F) (b : ℕ) (hb : b < 4) : Vec F S256x512 .f32 :=
  fun j => I.x (ix2 (⟨256 * b + (j 0).val, by have : (j 0).val < 256 := (j 0).isLt; omega⟩ : Fin 1024) (⟨(j 1).val, (j 1).isLt⟩ : Fin 512))
/-- Block `b` of the experts' numbers. -/
def iBlk (I : Inp F) (b : ℕ) (hb : b < 4) : Vec F S256x1 .i32 :=
  fun j => I.idx (ix2 (⟨256 * b + (j 0).val, by have : (j 0).val < 256 := (j 0).isLt; omega⟩ : Fin 1024) (⟨(j 1).val, (j 1).isLt⟩ : Fin 1))
/-- The weights of the device's `e`-th expert. -/
def wBlk (I : Inp F) (e : ℕ) (he : e < 4) : Vec F S1x512x1024 .f32 :=
  fun j => I.w (ix3 (⟨e, he⟩ : Fin 4) (⟨(j 1).val, (j 1).isLt⟩ : Fin 512) (⟨(j 2).val, (j 2).isLt⟩ : Fin 1024))

/-- The device's number, as the program computes it. -/
abbrev myWord (c : Dev nD) : BitVec 32 := Scalar.remsi (Scalar.divsi (Dev.word c) 1#32) 32#32

/-- What the device computes for block `b` of the tokens. -/
def blkVal (c : Dev nD) (I : Inp F) (b : ℕ) (hb : b < 4) : FVec F S256x1024 .bf16 :=
  k0_pay5 (myWord c) (k0_pay1 (xBlk I b hb)) (k0_pay2 (iBlk I b hb))
    (k0_pay3 (myWord c) (xBlk I b hb) (iBlk I b hb) (wBlk I 0 (by decide)))
    (k0_pay4 (myWord c) (xBlk I b hb) (iBlk I b hb)) (wBlk I 1 (by decide)) (wBlk I 2 (by decide)) (wBlk I 3 (by decide))

/-- What the device stages. -/
def stgOf (c : Dev nD) (I : Inp F) : StgT F := fun p =>
  blkVal c I ((p 0).val / 256) (by have : (p 0).val < 1024 := (p 0).isLt; omega)
    (ix2 (⟨(p 0).val % 256, Nat.mod_lt _ (by decide)⟩ : Fin 256) (⟨(p 1).val, (p 1).isLt⟩ : Fin 1024))

/-- The finished rows: on each device the sum over all devices of the rows staged for it. -/
def finOf (stg : Dev nD → StgT F) : SlotT F := fun p =>
  k0_pay25 (fun q => stg (⟨(q 0).val, (q 0).isLt⟩ : Dev nD)
      (ix2 (⟨32 * (p 0).val + (q 1).val, by
        have h0 : (p 0).val < 32 := (p 0).isLt
        have h1 : (q 1).val < 32 := (q 1).isLt
        omega⟩ : Fin 1024) (⟨(q 2).val, (q 2).isLt⟩ : Fin 1024)))
    (ix3 (0 : Fin 1) (⟨(p 1).val, (p 1).isLt⟩ : Fin 32) (⟨(p 2).val, (p 2).isLt⟩ : Fin 1024))

/-- The contents every transfer moves, from the operands of all devices. -/
def movedOf (I : Dev nD → Inp F) : Moved F := ⟨fun c => stgOf c (I c), finOf fun c => stgOf c (I c)⟩

/-! ## Loads -/

/-- A load gives the value of the part it reads and keeps the memory. -/
theorem load_step {c : Dev nD} {cs : CoreSpace} {s : Shape} {e : EltTy} {m : Memref sig .tc cs s e} {r : Rect s} {hl : m.view.LoadsAt r}
    {S : Finset (Idx ((m.access r).loc (c : Thread nD τ)))} {q : PosShare TreeShare} {f : Buf (Elt F) ((m.access r).loc (c : Thread nD τ))}
    (hS : (m.access r).set ⊆ S) {P : sProp 𝕄} {Q : (r.shape.Idx → Elt F e) → sProp 𝕄}
    (hP : P ⊢ iprop(((m.access r).loc (c : Thread nD τ) ↦[S]{q} f) ∗ (((m.access r).loc (c : Thread nD τ) ↦[S]{q} f) -∗ P)))
    (h : P ⊢ Q ((m.access r).read (Elt F) f)) : P ⊢ WP c (Prog.lift (.load m r hl)) Q := by
  unfold Prog.lift
  refine hP.trans ?_
  iintro ⟨Hp, HB⟩
  iapply (wp_load_rect 𝒱₀ (c : Thread nD τ) none Set.univ hS) $$ Hp
  iintro Hp
  iapply ret_intro
  iapply h
  iapply HB
  iexact Hp

/-- The device's operands. -/
def inPts (c : Dev nD) (I : Inp F) : sProp 𝕄 :=
  iprop(((c : Thread nD τ).loc (cc0_stg0_0 : Ref sig .tc) ↦[Finset.univ]{fullShare} I.x)
    ∗ ((c : Thread nD τ).loc (cc0_stg2_0 : Ref sig .tc) ↦[Finset.univ]{fullShare} I.idx)
    ∗ ((c : Thread nD τ).loc (cc0_stg3_0 : Ref sig .tc) ↦[Finset.univ]{fullShare} I.w))

/-- A load of the tokens of block `b`. -/
theorem load_x {c : Dev nD} {I : Inp F} {b : ℕ} (hb : b < 4) {o : Fin 2 → ℕ} {i : ∀ a, o a + S256x512.size a ≤ S1024x512.size a} (e : o = ![256 * b, 0])
    {hl : (Memref.whole cc0_stg0_0 : Memref sig .tc .vmem S1024x512 .f32).view.LoadsAt (Rect.unit (s := S1024x512) o S256x512.size i).toLoadRect}
    {A B C D R : sProp 𝕄} {Q : Vec F S256x512 .f32 → sProp 𝕄}
    (h : iprop(A ∗ B ∗ C ∗ D ∗ inPts c I ∗ R) ⊢ Q (xBlk I b hb)) :
    iprop(A ∗ B ∗ C ∗ D ∗ inPts c I ∗ R)
      ⊢ WP c (Prog.lift (.load (Memref.whole cc0_stg0_0 : Memref sig .tc .vmem S1024x512 .f32) (Rect.unit (s := S1024x512) o S256x512.size i).toLoadRect hl)) Q := by
  refine load_step (r := Rect.unit (s := S1024x512) o S256x512.size i) (f := I.x) (Finset.subset_univ _) (q := fullShare) ?_ ?_
  · unfold inPts
    iintro ⟨HA, HB, HC, HD, ⟨H0, H2, H3⟩, HR⟩
    isplitl [H0]; · iexact H0
    iintro H0
    isplitl [HA]; · iexact HA
    isplitl [HB]; · iexact HB
    isplitl [HC]; · iexact HC
    isplitl [HD]; · iexact HD
    isplitr [HR]
    · isplitl [H0]; · iexact H0
      isplitl [H2]; · iexact H2
      iexact H3
    iexact HR
  · refine h.trans (Entails.of_eq (congrArg Q ?_))
    subst e
    funext j
    refine congrArg I.x ?_
    funext a; apply Fin.ext
    match a with
    | ⟨0, _⟩ => show 256 * b + (j 0).val = 256 * b + 1 * (j 0).val; omega
    | ⟨1, _⟩ => show (j 1).val = 0 + 1 * (j 1).val; omega

/-- A load of the expert numbers of block `b`. -/
theorem load_idx {c : Dev nD} {I : Inp F} {b : ℕ} (hb : b < 4) {o : Fin 2 → ℕ} {i : ∀ a, o a + S256x1.size a ≤ S1024x1.size a} (e : o = ![256 * b, 0])
    {hl : (Memref.whole cc0_stg2_0 : Memref sig .tc .vmem S1024x1 .i32).view.LoadsAt (Rect.unit (s := S1024x1) o S256x1.size i).toLoadRect}
    {A B C D R : sProp 𝕄} {Q : Vec F S256x1 .i32 → sProp 𝕄}
    (h : iprop(A ∗ B ∗ C ∗ D ∗ inPts c I ∗ R) ⊢ Q (iBlk I b hb)) :
    iprop(A ∗ B ∗ C ∗ D ∗ inPts c I ∗ R)
      ⊢ WP c (Prog.lift (.load (Memref.whole cc0_stg2_0 : Memref sig .tc .vmem S1024x1 .i32) (Rect.unit (s := S1024x1) o S256x1.size i).toLoadRect hl)) Q := by
  refine load_step (r := Rect.unit (s := S1024x1) o S256x1.size i) (f := I.idx) (Finset.subset_univ _) (q := fullShare) ?_ ?_
  · unfold inPts
    iintro ⟨HA, HB, HC, HD, ⟨H0, H2, H3⟩, HR⟩
    isplitl [H2]; · iexact H2
    iintro H2
    isplitl [HA]; · iexact HA
    isplitl [HB]; · iexact HB
    isplitl [HC]; · iexact HC
    isplitl [HD]; · iexact HD
    isplitr [HR]
    · isplitl [H0]; · iexact H0
      isplitl [H2]; · iexact H2
      iexact H3
    iexact HR
  · refine h.trans (Entails.of_eq (congrArg Q ?_))
    subst e
    funext j
    refine congrArg I.idx ?_
    funext a; apply Fin.ext
    match a with
    | ⟨0, _⟩ => show 256 * b + (j 0).val = 256 * b + 1 * (j 0).val; omega
    | ⟨1, _⟩ => show (j 1).val = 0 + 1 * (j 1).val; omega

/-- A load of the matrix of local expert `n`. -/
theorem load_w {c : Dev nD} {I : Inp F} {n : ℕ} (hn : n < 4) {o : Fin 3 → ℕ} {i : ∀ a, o a + S1x512x1024.size a ≤ S4x512x1024.size a} (e : o = ![n, 0, 0])
    {hl : (Memref.whole cc0_stg3_0 : Memref sig .tc .vmem S4x512x1024 .f32).view.LoadsAt (Rect.unit (s := S4x512x1024) o S1x512x1024.size i).toLoadRect}
    {A B C D R : sProp 𝕄} {Q : Vec F S1x512x1024 .f32 → sProp 𝕄}
    (h : iprop(A ∗ B ∗ C ∗ D ∗ inPts c I ∗ R) ⊢ Q (wBlk I n hn)) :
    iprop(A ∗ B ∗ C ∗ D ∗ inPts c I ∗ R)
      ⊢ WP c (Prog.lift (.load (Memref.whole cc0_stg3_0 : Memref sig .tc .vmem S4x512x1024 .f32) (Rect.unit (s := S4x512x1024) o S1x512x1024.size i).toLoadRect hl)) Q := by
  refine load_step (r := Rect.unit (s := S4x512x1024) o S1x512x1024.size i) (f := I.w) (Finset.subset_univ _) (q := fullShare) ?_ ?_
  · unfold inPts
    iintro ⟨HA, HB, HC, HD, ⟨H0, H2, H3⟩, HR⟩
    isplitl [H3]; · iexact H3
    iintro H3
    isplitl [HA]; · iexact HA
    isplitl [HB]; · iexact HB
    isplitl [HC]; · iexact HC
    isplitl [HD]; · iexact HD
    isplitr [HR]
    · isplitl [H0]; · iexact H0
      isplitl [H2]; · iexact H2
      iexact H3
    iexact HR
  · refine h.trans (Entails.of_eq (congrArg Q ?_))
    subst e
    funext j
    refine congrArg I.w ?_
    funext a; apply Fin.ext
    match a with
    | ⟨0, _⟩ =>
      have hj : (j 0).val < 1 := (j 0).isLt
      show n = n + 1 * (j 0).val; omega
    | ⟨1, _⟩ => show (j 1).val = 0 + 1 * (j 1).val; omega
    | ⟨2, _⟩ => show (j 2).val = 0 + 1 * (j 2).val; omega

/-- The rows of the staging buffer not yet written. -/
def Up (c : Dev nD) (b : ℕ) : sProp 𝕄 := iprop(∃ f, stgPts (F := F) c (above b) f)

/-- A block read before it is written: whatever is there. -/
theorem load_up {c : Dev nD} {b : ℕ} {o : Fin 2 → ℕ} {i : ∀ a, o a + S256x1024.size a ≤ S1024x1024.size a} (e : o = ![256 * b, 0])
    {hl : (Memref.whole cc0_scratch0 : Memref sig .tc .vmem S1024x1024 .bf16).view.LoadsAt (Rect.unit (s := S1024x1024) o S256x1024.size i).toLoadRect}
    {A B C R : sProp 𝕄} {Q : Vec F S256x1024 .bf16 → sProp 𝕄}
    (h : ∀ v, iprop(A ∗ B ∗ C ∗ Up (F := F) c b ∗ R) ⊢ Q v) :
    iprop(A ∗ B ∗ C ∗ Up (F := F) c b ∗ R)
      ⊢ WP c (Prog.lift (.load (Memref.whole cc0_scratch0 : Memref sig .tc .vmem S1024x1024 .bf16) (Rect.unit (s := S1024x1024) o S256x1024.size i).toLoadRect hl)) Q := by
  subst e
  unfold Prog.lift Up stgPts at *
  iintro ⟨HA, HB, HC, ⟨%f, Hp⟩, HR⟩
  iapply (wp_load_rect 𝒱₀ (c : Thread nD τ) none Set.univ (m := (Memref.whole cc0_scratch0 : Memref sig .tc .vmem S1024x1024 .bf16))
    (r := Rect.unit (s := S1024x1024) ![256 * b, 0] S256x1024.size i) (S := above b) (f := f) (by
      refine (le_of_eq ((View.set_slice_whole _ _).trans (block_rect b i))).trans ?_
      rw [above_split]; exact Finset.subset_union_left)) $$ Hp
  iintro Hp
  iapply ret_intro
  iapply (h _)
  isplitl [HA]; · iexact HA
  isplitl [HB]; · iexact HB
  isplitl [HC]; · iexact HC
  isplitl [Hp]; · iexists f; iexact Hp
  iexact HR

/-- The device's own block of staged rows, read back. -/
theorem load_own {c : Dev nD} {o : Fin 2 → ℕ} {i : ∀ a, o a + S32x1024.size a ≤ S1024x1024.size a} (e : o = ![32 * c.val, 0])
    {hl : (Memref.whole cc0_scratch0 : Memref sig .tc .vmem S1024x1024 .bf16).view.LoadsAt (Rect.unit (s := S1024x1024) o S32x1024.size i).toLoadRect}
    {A R : sProp 𝕄} {Q : Vec F S32x1024 .bf16 → sProp 𝕄}
    (h : iprop(A ∗ stgPts c (rowsOf c) (X.stg c) ∗ R)
      ⊢ Q fun j => X.stg c (ix2 (⟨32 * c.val + (j 0).val, by
          have h0 : c.val < 32 := c.isLt
          have h1 : (j 0).val < 32 := (j 0).isLt
          omega⟩ : Fin 1024) (⟨(j 1).val, (j 1).isLt⟩ : Fin 1024))) :
    iprop(A ∗ stgPts c (rowsOf c) (X.stg c) ∗ R)
      ⊢ WP c (Prog.lift (.load (Memref.whole cc0_scratch0 : Memref sig .tc .vmem S1024x1024 .bf16) (Rect.unit (s := S1024x1024) o S32x1024.size i).toLoadRect hl)) Q := by
  subst e
  refine load_step (r := Rect.unit (s := S1024x1024) ![32 * c.val, 0] S32x1024.size i) (f := X.stg c) (q := fullShare)
    (le_of_eq ((View.set_slice_whole _ _).trans (rows_rect c i))) ?_ ?_
  · unfold stgPts
    iintro ⟨HA, Hp, HR⟩
    isplitl [Hp]; · iexact Hp
    iintro Hp
    isplitl [HA]; · iexact HA
    isplitl [Hp]; · iexact Hp
    iexact HR
  · refine h.trans (Entails.of_eq (congrArg Q ?_))
    funext j
    refine congrArg (X.stg c) ?_
    funext a; apply Fin.ext
    match a with
    | ⟨0, _⟩ => show 32 * c.val + (j 0).val = 32 * c.val + 1 * (j 0).val; omega
    | ⟨1, _⟩ => show (j 1).val = 0 + 1 * (j 1).val; omega

/-- The device's own slot of the landing buffer, read before it is written. -/
theorem load_sum {c : Dev nD} {o : Fin 3 → ℕ} {i : ∀ a, o a + S1x32x1024.size a ≤ S32x32x1024.size a} (e : o = ![c.val, 0, 0])
    {hl : (Memref.whole cc0_scratch1 : Memref sig .tc .vmem S32x32x1024 .bf16).view.LoadsAt (Rect.unit (s := S32x32x1024) o S1x32x1024.size i).toLoadRect}
    {A B R : sProp 𝕄} {Q : Vec F S1x32x1024 .bf16 → sProp 𝕄}
    (h : ∀ v, iprop(A ∗ B ∗ (∃ f, sumPts (F := F) c (slotOf c) f) ∗ R) ⊢ Q v) :
    iprop(A ∗ B ∗ (∃ f, sumPts (F := F) c (slotOf c) f) ∗ R)
      ⊢ WP c (Prog.lift (.load (Memref.whole cc0_scratch1 : Memref sig .tc .vmem S32x32x1024 .bf16) (Rect.unit (s := S32x32x1024) o S1x32x1024.size i).toLoadRect hl)) Q := by
  subst e
  unfold Prog.lift sumPts at *
  iintro ⟨HA, HB, ⟨%f, Hp⟩, HR⟩
  iapply (wp_load_rect 𝒱₀ (c : Thread nD τ) none Set.univ (m := (Memref.whole cc0_scratch1 : Memref sig .tc .vmem S32x32x1024 .bf16))
    (r := Rect.unit (s := S32x32x1024) ![c.val, 0, 0] S1x32x1024.size i) (S := slotOf c) (f := f)
    (le_of_eq ((View.set_slice_whole _ _).trans (slot_rect c i)))) $$ Hp
  iintro Hp
  iapply ret_intro
  iapply (h _)
  isplitl [HA]; · iexact HA
  isplitl [HB]; · iexact HB
  isplitl [Hp]; · iexists f; iexact Hp
  iexact HR

/-- The device's own slot of the gathering buffer, read before it is written. -/
theorem load_row {c : Dev nD} {o : Fin 3 → ℕ} {i : ∀ a, o a + S1x32x1024.size a ≤ S32x32x1024.size a} (e : o = ![c.val, 0, 0])
    {hl : (Memref.whole cc0_scratch2 : Memref sig .tc .vmem S32x32x1024 .bf16).view.LoadsAt (Rect.unit (s := S32x32x1024) o S1x32x1024.size i).toLoadRect}
    {A B R : sProp 𝕄} {Q : Vec F S1x32x1024 .bf16 → sProp 𝕄}
    (h : ∀ v, iprop(A ∗ B ∗ (∃ f, rowPts (F := F) c fullShare (slotOf c) f) ∗ R) ⊢ Q v) :
    iprop(A ∗ B ∗ (∃ f, rowPts (F := F) c fullShare (slotOf c) f) ∗ R)
      ⊢ WP c (Prog.lift (.load (Memref.whole cc0_scratch2 : Memref sig .tc .vmem S32x32x1024 .bf16) (Rect.unit (s := S32x32x1024) o S1x32x1024.size i).toLoadRect hl)) Q := by
  subst e
  unfold Prog.lift rowPts at *
  iintro ⟨HA, HB, ⟨%f, Hp⟩, HR⟩
  iapply (wp_load_rect 𝒱₀ (c : Thread nD τ) none Set.univ (m := (Memref.whole cc0_scratch2 : Memref sig .tc .vmem S32x32x1024 .bf16))
    (r := Rect.unit (s := S32x32x1024) ![c.val, 0, 0] S1x32x1024.size i) (S := slotOf c) (f := f)
    (le_of_eq ((View.set_slice_whole _ _).trans (slot_rect c i)))) $$ Hp
  iintro Hp
  iapply ret_intro
  iapply (h _)
  isplitl [HA]; · iexact HA
  isplitl [HB]; · iexact HB
  isplitl [Hp]; · iexists f; iexact Hp
  iexact HR

/-- Reading a whole array through its full rectangle gives the array. -/
theorem whole_read {b : Ref sig .tc} {i : ∀ a, (![0, 0, 0] : Fin 3 → ℕ) a + S32x32x1024.size a ≤ S32x32x1024.size a} (f : SlotT F) :
    (fun j : S32x32x1024.Idx => f ((Rect.unit (s := S32x32x1024) ![0, 0, 0] S32x32x1024.size i).emb j)) = f := by
  funext j
  refine congrArg f ?_
  funext a; apply Fin.ext
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- The whole landing buffer, read. -/
theorem load_sums {c : Dev nD} {f : SlotT F} {i : ∀ a, (![0, 0, 0] : Fin 3 → ℕ) a + S32x32x1024.size a ≤ S32x32x1024.size a}
    {hl : (Memref.whole cc0_scratch1 : Memref sig .tc .vmem S32x32x1024 .bf16).view.LoadsAt (Rect.unit (s := S32x32x1024) ![0, 0, 0] S32x32x1024.size i).toLoadRect}
    {A R : sProp 𝕄} {Q : Vec F S32x32x1024 .bf16 → sProp 𝕄}
    (h : iprop(A ∗ sumPts c Finset.univ f ∗ R) ⊢ Q f) :
    iprop(A ∗ sumPts c Finset.univ f ∗ R)
      ⊢ WP c (Prog.lift (.load (Memref.whole cc0_scratch1 : Memref sig .tc .vmem S32x32x1024 .bf16) (Rect.unit (s := S32x32x1024) ![0, 0, 0] S32x32x1024.size i).toLoadRect hl)) Q := by
  refine load_step (r := Rect.unit (s := S32x32x1024) ![0, 0, 0] S32x32x1024.size i) (f := f) (q := fullShare) (S := Finset.univ) (Finset.subset_univ _) ?_ ?_
  · unfold sumPts
    iintro ⟨HA, Hp, HR⟩
    isplitl [Hp]; · iexact Hp
    iintro Hp
    isplitl [HA]; · iexact HA
    isplitl [Hp]; · iexact Hp
    iexact HR
  · exact h.trans (Entails.of_eq (congrArg Q (whole_read (b := cc0_scratch1) f).symm))

/-- The whole gathering buffer, read at part of its share. -/
theorem load_rows {c : Dev nD} {q : PosShare TreeShare} {f : SlotT F} {i : ∀ a, (![0, 0, 0] : Fin 3 → ℕ) a + S32x32x1024.size a ≤ S32x32x1024.size a}
    {hl : (Memref.whole cc0_scratch2 : Memref sig .tc .vmem S32x32x1024 .bf16).view.LoadsAt (Rect.unit (s := S32x32x1024) ![0, 0, 0] S32x32x1024.size i).toLoadRect}
    {A R : sProp 𝕄} {Q : Vec F S32x32x1024 .bf16 → sProp 𝕄}
    (h : iprop(A ∗ rowPts c q Finset.univ f ∗ R) ⊢ Q f) :
    iprop(A ∗ rowPts c q Finset.univ f ∗ R)
      ⊢ WP c (Prog.lift (.load (Memref.whole cc0_scratch2 : Memref sig .tc .vmem S32x32x1024 .bf16) (Rect.unit (s := S32x32x1024) ![0, 0, 0] S32x32x1024.size i).toLoadRect hl)) Q := by
  refine load_step (r := Rect.unit (s := S32x32x1024) ![0, 0, 0] S32x32x1024.size i) (f := f) (q := q) (S := Finset.univ) (Finset.subset_univ _) ?_ ?_
  · unfold rowPts
    iintro ⟨HA, Hp, HR⟩
    isplitl [Hp]; · iexact Hp
    iintro Hp
    isplitl [HA]; · iexact HA
    isplitl [Hp]; · iexact Hp
    iexact HR
  · exact h.trans (Entails.of_eq (congrArg Q (whole_read (b := cc0_scratch2) f).symm))

/-- The device's output. -/
def outPts (c : Dev nD) (f : Vec F S1024x1024 .f32) : sProp 𝕄 :=
  (c : Thread nD τ).loc (cc0_stg4_0 : Ref sig .tc) ↦[Finset.univ]{fullShare} f

/-- The output, read before it is written. -/
theorem load_out {c : Dev nD} {o : Fin 2 → ℕ} {i : ∀ a, o a + S1024x1024.size a ≤ S1024x1024.size a}
    {hl : (Memref.whole cc0_stg4_0 : Memref sig .tc .vmem S1024x1024 .f32).view.LoadsAt (Rect.unit (s := S1024x1024) o S1024x1024.size i).toLoadRect}
    {A B R : sProp 𝕄} {Q : Vec F S1024x1024 .f32 → sProp 𝕄}
    (h : ∀ v, iprop(A ∗ B ∗ (∃ f, outPts (F := F) c f) ∗ R) ⊢ Q v) :
    iprop(A ∗ B ∗ (∃ f, outPts (F := F) c f) ∗ R)
      ⊢ WP c (Prog.lift (.load (Memref.whole cc0_stg4_0 : Memref sig .tc .vmem S1024x1024 .f32) (Rect.unit (s := S1024x1024) o S1024x1024.size i).toLoadRect hl)) Q := by
  unfold Prog.lift outPts at *
  iintro ⟨HA, HB, ⟨%f, Hp⟩, HR⟩
  iapply (wp_load_rect 𝒱₀ (c : Thread nD τ) none Set.univ (m := (Memref.whole cc0_stg4_0 : Memref sig .tc .vmem S1024x1024 .f32))
    (r := Rect.unit (s := S1024x1024) o S1024x1024.size i) (S := Finset.univ) (f := f) (Finset.subset_univ _)) $$ Hp
  iintro Hp
  iapply ret_intro
  iapply (h _)
  isplitl [HA]; · iexact HA
  isplitl [HB]; · iexact HB
  isplitl [Hp]; · iexists f; iexact Hp
  iexact HR

/-! ## Stores -/

/-- A block of rows is staged. -/
theorem store_block {c : Dev nD} {k b : ℕ} (hk : k = 8 * b) {o : Fin 2 → ℕ} {i : ∀ a, o a + S256x1024.size a ≤ S1024x1024.size a} (e : o = ![256 * b, 0])
    {w : Vec F S256x1024 .bf16}
    {hx : ((Memref.whole cc0_scratch0 : Memref sig .tc .vmem S1024x1024 .bf16).access (Rect.unit (s := S1024x1024) o S256x1024.size i)).Stores Finset.univ}
    {hm : (Finset.univ : Finset (Rect.unit (s := S1024x1024) o S256x1024.size i).shape.Idx) = Finset.univ ∨ ∀ a, (Rect.unit (s := S1024x1024) o S256x1024.size i).stride a = 1}
    {A B R : sProp 𝕄} {Q : PUnit → sProp 𝕄}
    (hw : ∀ p : S1024x1024.Idx, p ∈ block b → X.stg c p = w (ix2 (⟨(p 0).val % 256, Nat.mod_lt _ (by decide)⟩ : Fin 256) (⟨(p 1).val, (p 1).isLt⟩ : Fin 1024)))
    (h : iprop(A ∗ B ∗ stgPts c (left c k (b + 1)) (X.stg c) ∗ Up (F := F) c (b + 1) ∗ R) ⊢ Q ⟨⟩) :
    iprop(A ∗ B ∗ stgPts c (left c k b) (X.stg c) ∗ Up (F := F) c b ∗ R)
      ⊢ WP c (Prog.lift (.store (Memref.whole cc0_scratch0 : Memref sig .tc .vmem S1024x1024 .bf16) (Rect.unit (s := S1024x1024) o S256x1024.size i) w Finset.univ hx hm)) Q := by
  subst e hk
  rw [left_block] at h
  unfold Prog.lift Up stgPts at *
  iintro ⟨HA, HB, HC, ⟨%f, Hp⟩, HR⟩
  iapply (wp_store 𝒱₀ (c : Thread nD τ) none Set.univ (m := (Memref.whole cc0_scratch0 : Memref sig .tc .vmem S1024x1024 .bf16))
    (r := Rect.unit (s := S1024x1024) ![256 * b, 0] S256x1024.size i) (Mk := Finset.univ) (S := above b) (f := f) (by
      refine (le_of_eq ((View.set_slice_whole _ _).trans (block_rect b i))).trans ?_
      rw [above_split]; exact Finset.subset_union_left)) $$ Hp
  iintro Hp
  iapply ret_intro
  iapply h
  rw [above_split]
  ihave Hs := (pointsTo_union (above_disj b)).1 $$ Hp
  icases Hs with ⟨H1, H2⟩
  have hv : ∀ p ∈ block b, ((Memref.whole cc0_scratch0 : Memref sig .tc .vmem S1024x1024 .bf16).access (Rect.unit (s := S1024x1024) ![256 * b, 0] S256x1024.size i)).write (Elt F) f w Finset.univ p = X.stg c p := by
    intro p hp
    have hb := (Finset.mem_filter.mp hp).2
    have he : p = (Rect.unit (s := S1024x1024) ![256 * b, 0] S256x1024.size i).emb (ix2 (⟨(p 0).val % 256, Nat.mod_lt _ (by decide)⟩ : Fin 256) (⟨(p 1).val, (p 1).isLt⟩ : Fin 1024)) := by
      funext a; apply Fin.ext
      match a with
      | ⟨0, _⟩ => show (p 0).val = 256 * b + 1 * ((p 0).val % 256); omega
      | ⟨1, _⟩ => show (p 1).val = 0 + 1 * (p 1).val; omega
    rw [hw p hp]
    conv_lhs => rw [he]
    exact View.write_emb_of_mem (v := (Memref.whole cc0_scratch0 : Memref sig .tc .vmem S1024x1024 .bf16).access (Rect.unit (s := S1024x1024) ![256 * b, 0] S256x1024.size i)) f w (Finset.mem_univ _)
  have h1 := Entails.of_eq (pointsTo_congr (ℓ := (c : Thread nD τ).loc (cc0_scratch0 : Ref sig .tc)) (q := fullShare) (Ix := Unit) (Name := ℕ) (U := UU) (Lvl := ℕ) hv)
  ihave H1 := h1 $$ H1
  isplitl [HA]; · iexact HA
  isplitl [HB]; · iexact HB
  isplitl [HC H1]
  · iapply (pointsTo_union (left_block_disj c _ b)).2
    isplitl [HC]; · iexact HC
    iexact H1
  isplitl [H2]; · iexists _; iexact H2
  iexact HR

/-- The device's own slot of the landing buffer takes its own staged rows. -/
theorem store_sum {c : Dev nD} {o : Fin 3 → ℕ} {i : ∀ a, o a + S1x32x1024.size a ≤ S32x32x1024.size a} (e : o = ![c.val, 0, 0])
    {w : Vec F S1x32x1024 .bf16}
    {hx : ((Memref.whole cc0_scratch1 : Memref sig .tc .vmem S32x32x1024 .bf16).access (Rect.unit (s := S32x32x1024) o S1x32x1024.size i)).Stores Finset.univ}
    {hm : (Finset.univ : Finset (Rect.unit (s := S32x32x1024) o S1x32x1024.size i).shape.Idx) = Finset.univ ∨ ∀ a, (Rect.unit (s := S32x32x1024) o S1x32x1024.size i).stride a = 1}
    {A B R : sProp 𝕄} {Q : PUnit → sProp 𝕄}
    (hw : ∀ (r : Fin 32) (j : Fin 1024), X.sums c (ix3 (⟨c.val, c.isLt⟩ : Fin 32) r j) = w (ix3 (0 : Fin 1) r j))
    (h : iprop(A ∗ B ∗ sumPts c (slotOf c) (X.sums c) ∗ R) ⊢ Q ⟨⟩) :
    iprop(A ∗ B ∗ (∃ f, sumPts (F := F) c (slotOf c) f) ∗ R)
      ⊢ WP c (Prog.lift (.store (Memref.whole cc0_scratch1 : Memref sig .tc .vmem S32x32x1024 .bf16) (Rect.unit (s := S32x32x1024) o S1x32x1024.size i) w Finset.univ hx hm)) Q := by
  subst e
  unfold Prog.lift sumPts at *
  iintro ⟨HA, HB, ⟨%f, Hp⟩, HR⟩
  iapply (wp_store 𝒱₀ (c : Thread nD τ) none Set.univ (m := (Memref.whole cc0_scratch1 : Memref sig .tc .vmem S32x32x1024 .bf16))
    (r := Rect.unit (s := S32x32x1024) ![c.val, 0, 0] S1x32x1024.size i) (Mk := Finset.univ) (S := slotOf c) (f := f)
    (le_of_eq ((View.set_slice_whole _ _).trans (slot_rect c i)))) $$ Hp
  iintro Hp
  iapply ret_intro
  iapply h
  have hv : ∀ p ∈ slotOf c, ((Memref.whole cc0_scratch1 : Memref sig .tc .vmem S32x32x1024 .bf16).access (Rect.unit (s := S32x32x1024) ![c.val, 0, 0] S1x32x1024.size i)).write (Elt F) f w Finset.univ p = X.sums c p := by
    intro p hp
    have hb : (p 0).val = c.val := (Finset.mem_filter.mp hp).2
    have he : p = (Rect.unit (s := S32x32x1024) ![c.val, 0, 0] S1x32x1024.size i).emb (ix3 (0 : Fin 1) (⟨(p 1).val, (p 1).isLt⟩ : Fin 32) (⟨(p 2).val, (p 2).isLt⟩ : Fin 1024)) := by
      funext a; apply Fin.ext
      match a with
      | ⟨0, _⟩ => show (p 0).val = c.val + 1 * 0; omega
      | ⟨1, _⟩ => show (p 1).val = 0 + 1 * (p 1).val; omega
      | ⟨2, _⟩ => show (p 2).val = 0 + 1 * (p 2).val; omega
    have he' : p = ix3 (⟨c.val, c.isLt⟩ : Fin 32) (⟨(p 1).val, (p 1).isLt⟩ : Fin 32) (⟨(p 2).val, (p 2).isLt⟩ : Fin 1024) := by
      funext a; apply Fin.ext
      match a with
      | ⟨0, _⟩ => exact hb
      | ⟨1, _⟩ => rfl
      | ⟨2, _⟩ => rfl
    conv_rhs => rw [he', hw]
    conv_lhs => rw [he]
    exact View.write_emb_of_mem (v := (Memref.whole cc0_scratch1 : Memref sig .tc .vmem S32x32x1024 .bf16).access (Rect.unit (s := S32x32x1024) ![c.val, 0, 0] S1x32x1024.size i)) f w (Finset.mem_univ _)
  have h1 := Entails.of_eq (pointsTo_congr (ℓ := (c : Thread nD τ).loc (cc0_scratch1 : Ref sig .tc)) (q := fullShare) (Ix := Unit) (Name := ℕ) (U := UU) (Lvl := ℕ) hv)
  ihave H1 := h1 $$ Hp
  isplitl [HA]; · iexact HA
  isplitl [HB]; · iexact HB
  isplitl [H1]; · iexact H1
  iexact HR

/-- The device's own slot of the gathering buffer takes its finished rows. -/
theorem store_row {c : Dev nD} {o : Fin 3 → ℕ} {i : ∀ a, o a + S1x32x1024.size a ≤ S32x32x1024.size a} (e : o = ![c.val, 0, 0])
    {w : Vec F S1x32x1024 .bf16}
    {hx : ((Memref.whole cc0_scratch2 : Memref sig .tc .vmem S32x32x1024 .bf16).access (Rect.unit (s := S32x32x1024) o S1x32x1024.size i)).Stores Finset.univ}
    {hm : (Finset.univ : Finset (Rect.unit (s := S32x32x1024) o S1x32x1024.size i).shape.Idx) = Finset.univ ∨ ∀ a, (Rect.unit (s := S32x32x1024) o S1x32x1024.size i).stride a = 1}
    {A B R : sProp 𝕄} {Q : PUnit → sProp 𝕄}
    (hw : ∀ (r : Fin 32) (j : Fin 1024), X.fin (ix3 (⟨c.val, c.isLt⟩ : Fin 32) r j) = w (ix3 (0 : Fin 1) r j))
    (h : iprop(A ∗ B ∗ rowPts c fullShare (slotOf c) X.fin ∗ R) ⊢ Q ⟨⟩) :
    iprop(A ∗ B ∗ (∃ f, rowPts (F := F) c fullShare (slotOf c) f) ∗ R)
      ⊢ WP c (Prog.lift (.store (Memref.whole cc0_scratch2 : Memref sig .tc .vmem S32x32x1024 .bf16) (Rect.unit (s := S32x32x1024) o S1x32x1024.size i) w Finset.univ hx hm)) Q := by
  subst e
  unfold Prog.lift rowPts at *
  iintro ⟨HA, HB, ⟨%f, Hp⟩, HR⟩
  iapply (wp_store 𝒱₀ (c : Thread nD τ) none Set.univ (m := (Memref.whole cc0_scratch2 : Memref sig .tc .vmem S32x32x1024 .bf16))
    (r := Rect.unit (s := S32x32x1024) ![c.val, 0, 0] S1x32x1024.size i) (Mk := Finset.univ) (S := slotOf c) (f := f)
    (le_of_eq ((View.set_slice_whole _ _).trans (slot_rect c i)))) $$ Hp
  iintro Hp
  iapply ret_intro
  iapply h
  have hv : ∀ p ∈ slotOf c, ((Memref.whole cc0_scratch2 : Memref sig .tc .vmem S32x32x1024 .bf16).access (Rect.unit (s := S32x32x1024) ![c.val, 0, 0] S1x32x1024.size i)).write (Elt F) f w Finset.univ p = X.fin p := by
    intro p hp
    have hb : (p 0).val = c.val := (Finset.mem_filter.mp hp).2
    have he : p = (Rect.unit (s := S32x32x1024) ![c.val, 0, 0] S1x32x1024.size i).emb (ix3 (0 : Fin 1) (⟨(p 1).val, (p 1).isLt⟩ : Fin 32) (⟨(p 2).val, (p 2).isLt⟩ : Fin 1024)) := by
      funext a; apply Fin.ext
      match a with
      | ⟨0, _⟩ => show (p 0).val = c.val + 1 * 0; omega
      | ⟨1, _⟩ => show (p 1).val = 0 + 1 * (p 1).val; omega
      | ⟨2, _⟩ => show (p 2).val = 0 + 1 * (p 2).val; omega
    have he' : p = ix3 (⟨c.val, c.isLt⟩ : Fin 32) (⟨(p 1).val, (p 1).isLt⟩ : Fin 32) (⟨(p 2).val, (p 2).isLt⟩ : Fin 1024) := by
      funext a; apply Fin.ext
      match a with
      | ⟨0, _⟩ => exact hb
      | ⟨1, _⟩ => rfl
      | ⟨2, _⟩ => rfl
    conv_rhs => rw [he', hw]
    conv_lhs => rw [he]
    exact View.write_emb_of_mem (v := (Memref.whole cc0_scratch2 : Memref sig .tc .vmem S32x32x1024 .bf16).access (Rect.unit (s := S32x32x1024) ![c.val, 0, 0] S1x32x1024.size i)) f w (Finset.mem_univ _)
  have h1 := Entails.of_eq (pointsTo_congr (ℓ := (c : Thread nD τ).loc (cc0_scratch2 : Ref sig .tc)) (q := fullShare) (Ix := Unit) (Name := ℕ) (U := UU) (Lvl := ℕ) hv)
  ihave H1 := h1 $$ Hp
  isplitl [HA]; · iexact HA
  isplitl [HB]; · iexact HB
  isplitl [H1]; · iexact H1
  iexact HR

/-- The output is written whole. -/
theorem store_out {c : Dev nD} {i : ∀ a, (![0, 0] : Fin 2 → ℕ) a + S1024x1024.size a ≤ S1024x1024.size a}
    {w : Vec F S1024x1024 .f32}
    {hx : ((Memref.whole cc0_stg4_0 : Memref sig .tc .vmem S1024x1024 .f32).access (Rect.unit (s := S1024x1024) ![0, 0] S1024x1024.size i)).Stores Finset.univ}
    {hm : (Finset.univ : Finset (Rect.unit (s := S1024x1024) ![0, 0] S1024x1024.size i).shape.Idx) = Finset.univ ∨ ∀ a, (Rect.unit (s := S1024x1024) ![0, 0] S1024x1024.size i).stride a = 1}
    {A B R : sProp 𝕄} {Q : PUnit → sProp 𝕄}
    (h : iprop(A ∗ B ∗ outPts c w ∗ R) ⊢ Q ⟨⟩) :
    iprop(A ∗ B ∗ (∃ f, outPts (F := F) c f) ∗ R)
      ⊢ WP c (Prog.lift (.store (Memref.whole cc0_stg4_0 : Memref sig .tc .vmem S1024x1024 .f32) (Rect.unit (s := S1024x1024) ![0, 0] S1024x1024.size i) w Finset.univ hx hm)) Q := by
  unfold Prog.lift outPts at *
  iintro ⟨HA, HB, ⟨%f, Hp⟩, HR⟩
  iapply (wp_store 𝒱₀ (c : Thread nD τ) none Set.univ (m := (Memref.whole cc0_stg4_0 : Memref sig .tc .vmem S1024x1024 .f32))
    (r := Rect.unit (s := S1024x1024) ![0, 0] S1024x1024.size i) (Mk := Finset.univ) (S := Finset.univ) (f := f) (Finset.subset_univ _)) $$ Hp
  iintro Hp
  iapply ret_intro
  iapply h
  have h1 : ((c : Thread nD τ).loc (cc0_stg4_0 : Ref sig .tc) ↦[Finset.univ]{fullShare} ((Memref.whole cc0_stg4_0 : Memref sig .tc .vmem S1024x1024 .f32).access (Rect.unit (s := S1024x1024) ![0, 0] S1024x1024.size i)).write (Elt F) f w Finset.univ : sProp 𝕄)
      ⊢ (c : Thread nD τ).loc (cc0_stg4_0 : Ref sig .tc) ↦[Finset.univ]{fullShare} w :=
    Entails.of_eq (congrArg (fun g => ((c : Thread nD τ).loc (cc0_stg4_0 : Ref sig .tc) ↦[Finset.univ]{fullShare} g : sProp 𝕄))
      (Memref.write_access_unit_zero_univ (Elt F) cc0_stg4_0 (by funext a; fin_cases a <;> rfl) i f w))
  ihave Hp := h1 $$ Hp
  isplitl [HA]; · iexact HA
  isplitl [HB]; · iexact HB
  isplitl [Hp]; · iexact Hp
  iexact HR

end Cert.KernelIdeal.Dist
-- ==== Proof.Moves.lean ====
/-
  What a device holds between the loops of the exchange, and how what one loop leaves becomes what the next one needs.
-/
module

public import proofs.«01_k».proof.Proof.Memory

@[expose] public section

set_option maxRecDepth 16384

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Transfers (shareTok shareDrop)

variable {F : FTy → Type} [FloatOps F]

local notation "𝕄" => MT nD τ sig Unit (Elt F) ℕ UU ℕ

variable (X : Moved F)

/-- All devices but `c`. -/
abbrev others (c : Dev nD) : Finset (Dev nD) := Finset.univ.erase c

/-! ## The buffers, whole and in parts -/

/-- The devices' rows together are all the rows. -/
theorem biUnion_rows : (Finset.univ : Finset (Dev nD)).biUnion rowsOf = Finset.univ := by
  ext p
  have hp : (p 0).val < 1024 := (p 0).isLt
  simp only [Finset.mem_biUnion, Finset.mem_univ, true_and, iff_true]
  exact ⟨⟨(p 0).val / 32, by show (p 0).val / 32 < 32; omega⟩, Finset.mem_filter.mpr ⟨Finset.mem_univ _, rfl⟩⟩
/-- The devices' slots together are all the slots. -/
theorem biUnion_slots : (Finset.univ : Finset (Dev nD)).biUnion slotOf = Finset.univ := by
  ext p
  have hp : (p 0).val < 32 := (p 0).isLt
  simp only [Finset.mem_biUnion, Finset.mem_univ, true_and, iff_true]
  exact ⟨⟨(p 0).val, hp⟩, Finset.mem_filter.mpr ⟨Finset.mem_univ _, rfl⟩⟩
/-- Different devices' rows are apart. -/
theorem rows_disj (t t' : Dev nD) (h : t ≠ t') : Disjoint (rowsOf t) (rowsOf t') := by
  rw [Finset.disjoint_left]
  intro p hp hp'
  exact h (Fin.ext ((Finset.mem_filter.mp hp).2.symm.trans (Finset.mem_filter.mp hp').2))
/-- Different devices' slots are apart. -/
theorem slots_disj (t t' : Dev nD) (h : t ≠ t') : Disjoint (slotOf t) (slotOf t') := by
  rw [Finset.disjoint_left]
  intro p hp hp'
  exact h (Fin.ext ((Finset.mem_filter.mp hp).2.symm.trans (Finset.mem_filter.mp hp').2))

/-- The staging buffer is the blocks for all devices. -/
theorem stg_parts (c d : Dev nD) (f : StgT F) :
    stgPts c Finset.univ f = iprop(stgPts c (rowsOf d) f ∗ bigSep (others d) fun t => stgPts c (rowsOf t) f) := by
  unfold stgPts
  rw [← biUnion_rows, pointsTo_biUnion _ _ (fun t _ t' _ h => rows_disj t t' h), bigSep_univ_at _ d]
/-- The landing buffer is the slots of all devices. -/
theorem sum_parts (c d : Dev nD) (f : SlotT F) :
    sumPts c Finset.univ f = iprop(sumPts c (slotOf d) f ∗ bigSep (others d) fun t => sumPts c (slotOf t) f) := by
  unfold sumPts
  rw [← biUnion_slots, pointsTo_biUnion _ _ (fun t _ t' _ h => slots_disj t t' h), bigSep_univ_at _ d]
/-- The gathering buffer is the slots of all devices. -/
theorem row_parts (c d : Dev nD) (q : PosShare TreeShare) (f : SlotT F) :
    rowPts c q Finset.univ f = iprop(rowPts c q (slotOf d) f ∗ bigSep (others d) fun t => rowPts c q (slotOf t) f) := by
  unfold rowPts
  rw [← biUnion_slots, pointsTo_biUnion _ _ (fun t _ t' _ h => slots_disj t t' h), bigSep_univ_at _ d]
/-- A share of a slot is one part for each device and a rest. -/
theorem row_toks (c : Dev nD) (S : Finset S32x32x1024.Idx) (f : SlotT F) :
    rowPts c fullShare S f ⊣⊢ iprop(rowPts c (shareDrop fullShare 32) S f ∗ bigSep (Finset.univ : Finset (Dev nD)) fun t => rowPts c (shareTok fullShare 32 t) S f) :=
  Transfers.pointsTo_toks fullShare 32

/-! ## The parts of what a device holds -/

abbrev barAt (c : Dev nD) : sProp 𝕄 := iprop(cred (tallyAt (barC c) () 31) ∗ atPos ER (barC c) 0 ∅ 0)
abbrev sndTok (c : Dev nD) : sProp 𝕄 := bigSep (others c) fun t => iprop(dutyTok ER (sumC t c) 0 0 ∗ dutyTok ER (sendC c t) 0 0)
abbrev finTok (c : Dev nD) : sProp 𝕄 := bigSep (others c) fun t => iprop(dutyTok ER (rowC t c) 0 0 ∗ dutyTok ER (sendC c t) 1 0)
abbrev sumCr (c : Dev nD) : sProp 𝕄 := bigSep (others c) fun s => iprop(cred (tallyAt (sumC c s) () N) ∗ atPos ER (sumC c s) 0 ∅ 0)
abbrev rowCr (c : Dev nD) : sProp 𝕄 := bigSep (others c) fun s => iprop(cred (tallyAt (rowC c s) () N) ∗ atPos ER (rowC c s) 0 ∅ 0)
abbrev sndAt (c : Dev nD) (r : ℕ) : sProp 𝕄 := bigSep (others c) fun t => atPos ER (sendC c t) r ∅ 0
abbrev sumAt (c : Dev nD) (r : ℕ) : sProp 𝕄 := bigSep (others c) fun t => atPos ER (sumC c t) r ∅ 0
abbrev rowAt (c : Dev nD) (r : ℕ) : sProp 𝕄 := bigSep (others c) fun t => atPos ER (rowC c t) r ∅ 0
abbrev sndCr (c : Dev nD) : sProp 𝕄 := bigSep (others c) fun t => iprop(cred (tallyAt (sendC c t) () N))
abbrev ownAt (c : Dev nD) : sProp 𝕄 := iprop(atPos ER (sendC c c) 0 ∅ 0 ∗ atPos ER (sumC c c) 0 ∅ 0 ∗ atPos ER (rowC c c) 0 ∅ 0)
abbrev sumEx (c : Dev nD) : sProp 𝕄 := iprop(∃ f, sumPts (F := F) c (slotOf c) f)
abbrev rowEx (c : Dev nD) : sProp 𝕄 := iprop(∃ f, rowPts (F := F) c fullShare (slotOf c) f)
abbrev outEx (c : Dev nD) : sProp 𝕄 := iprop(∃ f, outPts (F := F) c f)
/-- The other devices' slots for this one's finished rows, lent by their barrier signals. -/
abbrev rowSl (c : Dev nD) : sProp 𝕄 := bigSep (others c) fun d => iprop(∃ f, rowPts (F := F) d fullShare (slotOf c) f)
/-- The finished rows of all devices, as lent to the transfers. -/
abbrev toks (c : Dev nD) : sProp 𝕄 :=
  iprop(rowPts c (shareTok fullShare 32 c) (slotOf c) X.fin ∗ bigSep (others c) fun s => bigSep (Finset.univ : Finset (Dev nD)) fun t => rowPts c (shareTok fullShare 32 t) (slotOf s) X.fin)

/-- What a device owes at first. -/
abbrev owed0 (c : Dev nD) : CellTallies nD τ sig Unit := owRow c (others c) + owSum c (others c)

/-- What a device starts with. -/
def Start (c : Dev nD) (I : Inp F) : sProp 𝕄 :=
  iprop(Ctx X ∗ Sig c (rem c 1) (owed0 c) ∗ barAt c ∗ sndTok c ∗ Up (F := F) c 0 ∗ inPts c I
    ∗ sumEx (F := F) c ∗ rowEx (F := F) c ∗ sumCr c ∗ sndAt c 0 ∗ finTok c ∗ rowCr c ∗ outEx (F := F) c ∗ ownAt c)

/-- What a device ends with: no debt, every semaphore at zero, the operands, the output and its buffers. -/
def Final (c : Dev nD) (I : Inp F) (w : Vec F S1024x1024 .f32) : sProp 𝕄 :=
  iprop(owesE c 0 ∗ inPts c I ∗ outPts c w ∗ semVal (barC c) 0
    ∗ (bigSep (Finset.univ : Finset (Dev nD)) fun t => semVal (sendC c t) 0)
    ∗ (bigSep (Finset.univ : Finset (Dev nD)) fun t => semVal (sumC c t) 0)
    ∗ (bigSep (Finset.univ : Finset (Dev nD)) fun t => semVal (rowC c t) 0)
    ∗ (∃ f, stgPts (F := F) c Finset.univ f) ∗ (∃ f, sumPts (F := F) c Finset.univ f) ∗ (∃ f, rowPts (F := F) c fullShare Finset.univ f))

/-! ## From one loop to the next -/

/-- What has come back with the staging rows' transfers. -/
theorem paid_stg (c : Dev nD) : (bigSep (others c) fun t => (sched X).payload (sendC c t) 0 0) ⊢ bigSep (others c) fun t => stgPts c (rowsOf t) (X.stg c) :=
  bigSep_mono fun t _ => Entails.of_eq (payload_send X c 0 t 0)
/-- What has landed of the sums. -/
theorem paid_sums (c : Dev nD) : (bigSep (others c) fun s => (sched X).payload (sumC c s) 0 0) ⊢ bigSep (others c) fun s => sumPts c (slotOf s) (X.sums c) :=
  bigSep_mono fun s _ => Entails.of_eq (payload_sum X c 0 s 0)
/-- What has come back with the finished rows' transfers. -/
theorem paid_rows (c : Dev nD) : (bigSep (others c) fun t => (sched X).payload (sendC c t) 1 0)
    ⊢ bigSep (others c) fun t => rowPts c (shareTok fullShare 32 t) (slotOf c) X.fin :=
  bigSep_mono fun t _ => Entails.of_eq (payload_send X c 0 t 1)

/-- After the signals the device stands before its barrier. -/
theorem to_barrier {c : Dev nD} {R : sProp 𝕄} {O : CellTallies nD τ sig Unit} :
    iprop(Ctx X ∗ Sig c (rem c 32) O ∗ barAt c ∗ R)
      ⊢ iprop(Ctx X ∗ (owesE c O ∗ cred (tallyAt (barC c) () 31) ∗ atPos ER (barC c) 0 ∅ 0) ∗ R) := by
  unfold Sig
  rw [rem_last, show owBar ∅ = 0 from Finset.sum_empty, add_zero]
  iintro ⟨HC, ⟨HO, -⟩, ⟨Hc, Ha⟩, HR⟩
  isplitl [HC]; · iexact HC
  isplitl [HO Hc Ha]
  · isplitl [HO]; · iexact HO
    isplitl [Hc] <;> iassumption
  iexact HR

/-- After the barrier the device holds what the staged sends need. -/
theorem to_send {c : Dev nD} {I : Inp F} {R : sProp 𝕄} :
    iprop(Ctx X ∗ (owesE c (owed0 c) ∗ atPos ER (barC c) 1 ∅ 0 ∗ bigSep (others c) fun d => barPay (F := F) d c)
        ∗ sndTok c ∗ Up (F := F) c 0 ∗ inPts c I ∗ R)
      ⊢ iprop(Ctx X ∗ Snd c (ahead c 0) (past c 0) (owRow c (others c)) ∗ stgPts c (left c 0 0) (X.stg c) ∗ Up (F := F) c 0 ∗ inPts c I
        ∗ (atPos ER (barC c) 1 ∅ 0 ∗ rowSl c) ∗ R) := by
  unfold Snd barPay
  rw [ahead_zero, past_zero, left_zero, show stgPts c ∅ (X.stg c) = (BI.emp : sProp 𝕄) from pointsTo_empty, bigSep_empty]
  simp only [bigSep_sep']
  iintro ⟨HC, ⟨HO, Ha, HS, HG⟩, ⟨H1, H2⟩, HU, HI, HR⟩
  isplitl [HC]; · iexact HC
  isplitl [HO HS H1 H2]
  · isplitl [HO]; · iexact HO
    isplitl [HS H1 H2]
    · isplitl [H1]; · iexact H1
      isplitl [H2]; · iexact H2
      iexact HS
    · iempintro
  isplitr
  · iempintro
  isplitl [HU]; · iexact HU
  isplitl [HI]; · iexact HI
  isplitl [Ha HG]
  · isplitl [Ha] <;> iassumption
  iexact HR

/-- After the staged sends the device holds its own slot and rows. -/
theorem to_own {c : Dev nD} {I : Inp F} {K R : sProp 𝕄} :
    iprop(Ctx X ∗ Snd c (ahead c 32) (past c 32) (owRow c (others c)) ∗ stgPts c (left c 32 4) (X.stg c) ∗ Up (F := F) c 4 ∗ inPts c I
        ∗ K ∗ sumEx (F := F) c ∗ R)
      ⊢ iprop(Ctx X ∗ stgPts c (rowsOf c) (X.stg c) ∗ sumEx (F := F) c ∗ (owesE c (owRow c (others c)) ∗ sndCr c ∗ inPts c I ∗ K) ∗ R) := by
  unfold Snd
  rw [ahead_last, past_last, left_last, show owSum c ∅ = 0 from Finset.sum_empty, add_zero]
  iintro ⟨HC, ⟨HO, -, HD⟩, HL, HU, HI, HK, HS, HR⟩
  isplitl [HC]; · iexact HC
  isplitl [HL]; · iexact HL
  isplitl [HS]; · iexact HS
  isplitl [HO HD HI HK]
  · isplitl [HO]; · iexact HO
    isplitl [HD]; · iexact HD
    isplitl [HI] <;> iassumption
  iexact HR

/-- With its own rows in its slot the device begins to wait for the others'. -/
theorem to_land {c : Dev nD} {B K R : sProp 𝕄} {O : CellTallies nD τ sig Unit} :
    iprop(Ctx X ∗ B ∗ sumPts c (slotOf c) (X.sums c) ∗ (owesE c O ∗ K) ∗ rowEx (F := F) c ∗ sumCr c ∗ R)
      ⊢ iprop(Ctx X ∗ Wt X sumS 0 c (rem c 1) (gone c 1) O ∗ sumPts c (slotOf c) (X.sums c) ∗ rowEx (F := F) c ∗ (B ∗ K) ∗ R) := by
  unfold Wt
  rw [rem_one, gone_one, bigSep_empty]
  iintro ⟨HC, HB, HS, ⟨HO, HK⟩, HE, HW, HR⟩
  isplitl [HC]; · iexact HC
  isplitl [HO HW]
  · isplitl [HO]; · iexact HO
    isplitl [HW]; · iexact HW
    iempintro
  isplitl [HS]; · iexact HS
  isplitl [HE]; · iexact HE
  isplitl [HB HK]
  · isplitl [HB] <;> iassumption
  iexact HR

/-- With every landing awaited the device holds all the slots of the first phase. -/
theorem landed {c : Dev nD} {K R : sProp 𝕄} {O : CellTallies nD τ sig Unit} :
    iprop(Ctx X ∗ Wt X sumS 0 c (rem c 32) (gone c 32) O ∗ sumPts c (slotOf c) (X.sums c) ∗ rowEx (F := F) c ∗ K ∗ R)
      ⊢ iprop(Ctx X ∗ sumPts c Finset.univ (X.sums c) ∗ rowEx (F := F) c ∗ (owesE c O ∗ sumAt c 1 ∗ K) ∗ R) := by
  unfold Wt
  rw [rem_last, gone_last, bigSep_sep', bigSep_sep', bigSep_sep']
  iintro ⟨HC, ⟨HO, -, Ha, -, HP⟩, HS, HE, HK, HR⟩
  isplitl [HC]; · iexact HC
  isplitl [HP HS]
  · rw [sum_parts c c]
    isplitl [HS]; · iexact HS
    iapply (paid_sums X c); iexact HP
  isplitl [HE]; · iexact HE
  isplitl [HO Ha HK]
  · isplitl [HO]; · iexact HO
    isplitl [Ha] <;> iassumption
  iexact HR

/-- The device then waits for its own staged sends. -/
theorem to_left {c : Dev nD} {A G K R : sProp 𝕄} {O : CellTallies nD τ sig Unit} :
    iprop(Ctx X ∗ A ∗ rowPts c fullShare (slotOf c) X.fin ∗ (owesE c O ∗ G ∗ stgPts c (rowsOf c) (X.stg c) ∗ sndCr c ∗ K) ∗ sndAt c 0 ∗ R)
      ⊢ iprop(Ctx X ∗ Wt X sendS 0 c (ahead c 0) (past c 0) O ∗ rowPts c fullShare (slotOf c) X.fin ∗ stgPts c (rowsOf c) (X.stg c) ∗ (A ∗ G ∗ K) ∗ R) := by
  unfold Wt
  rw [ahead_zero, past_zero, bigSep_empty, bigSep_sep']
  iintro ⟨HC, HA, HF, ⟨HO, HG, HS, HD, HK⟩, HP, HR⟩
  isplitl [HC]; · iexact HC
  isplitl [HO HD HP]
  · isplitl [HO]; · iexact HO
    isplitl [HD HP]
    · isplitl [HD] <;> iassumption
    iempintro
  isplitl [HF]; · iexact HF
  isplitl [HS]; · iexact HS
  isplitl [HA HG HK]
  · isplitl [HA]; · iexact HA
    isplitl [HG] <;> iassumption
  iexact HR

/-- With its staged sends done the device begins to send its finished rows. -/
theorem to_fin {c : Dev nD} {A K0 K1 K2 R : sProp 𝕄} :
    iprop(Ctx X ∗ Wt X sendS 0 c (ahead c 32) (past c 32) (owRow c (others c)) ∗ rowPts c fullShare (slotOf c) X.fin ∗ stgPts c (rowsOf c) (X.stg c)
        ∗ (A ∗ K0 ∗ K1 ∗ K2 ∗ rowSl c) ∗ finTok c ∗ R)
      ⊢ iprop(Ctx X ∗ Fin2 X c (rem c 1) (gone c 1)
        ∗ (rowPts c (shareDrop fullShare 32) (slotOf c) X.fin ∗ rowPts c (shareTok fullShare 32 c) (slotOf c) X.fin)
        ∗ (stgPts c Finset.univ (X.stg c) ∗ sndAt c 1 ∗ A ∗ K0 ∗ K1 ∗ K2) ∗ R) := by
  unfold Wt Fin2
  rw [ahead_last, past_last, rem_one, gone_one, bigSep_empty]
  simp only [bigSep_sep']
  iintro ⟨HC, ⟨HO, -, Ha, #Hr, HP⟩, HF, HS, ⟨HA, HK0, HK1, HK2, HL⟩, ⟨HT1, HT2⟩, HR⟩
  ihave HF' := (row_toks c (slotOf c) X.fin).1 $$ HF
  icases HF' with ⟨HFd, HFt⟩
  have hsp : (bigSep (Finset.univ : Finset (Dev nD)) fun t => rowPts c (shareTok fullShare 32 t) (slotOf c) X.fin)
      ⊢ iprop(rowPts c (shareTok fullShare 32 c) (slotOf c) X.fin ∗ bigSep (others c) fun t => rowPts c (shareTok fullShare 32 t) (slotOf c) X.fin) :=
    Entails.of_eq (bigSep_univ_at _ c)
  ihave HFt' := hsp $$ HFt
  icases HFt' with ⟨HF1, HF2⟩
  isplitl [HC]; · iexact HC
  isplitl [HO HT1 HT2 HL HF2]
  · isplitl [HO]; · iexact HO
    isplitl [HT1 HT2 HL HF2]
    · isplitl [HT1]; · iexact HT1
      isplitl [HT2]; · iexact HT2
      isplitr; · iexact Hr
      isplitl [HL]; · iexact HL
      iexact HF2
    iempintro
  isplitl [HFd HF1]
  · isplitl [HFd] <;> iassumption
  isplitl [HP HS Ha HA HK0 HK1 HK2]
  · isplitl [HP HS]
    · rw [stg_parts c c]
      isplitl [HS]; · iexact HS
      iapply (paid_stg X c); iexact HP
    isplitl [Ha]; · iexact Ha
    isplitl [HA]; · iexact HA
    isplitl [HK0]; · iexact HK0
    isplitl [HK1] <;> iassumption
  iexact HR

/-- With the finished rows sent the device waits for the others'. -/
theorem to_gather {c : Dev nD} {B K R : sProp 𝕄} :
    iprop(Ctx X ∗ Fin2 X c (rem c 32) (gone c 32) ∗ B ∗ K ∗ rowCr c ∗ R)
      ⊢ iprop(Ctx X ∗ Wt X rowS 0 c (rem c 1) (gone c 1) 0 ∗ B ∗ (sndCr c ∗ K) ∗ R) := by
  unfold Wt Fin2
  rw [rem_last, gone_last, rem_one, gone_one, bigSep_empty, show owRow c ∅ = 0 from Finset.sum_empty]
  iintro ⟨HC, ⟨HO, -, HD⟩, HB, HK, HW, HR⟩
  isplitl [HC]; · iexact HC
  isplitl [HO HW]
  · isplitl [HO]; · iexact HO
    isplitl [HW]; · iexact HW
    iempintro
  isplitl [HB]; · iexact HB
  isplitl [HD HK]
  · isplitl [HD] <;> iassumption
  iexact HR

/-- With every landing awaited the device can read all the finished rows. -/
theorem gathered {c : Dev nD} {K E R : sProp 𝕄} :
    iprop(Ctx X ∗ Wt X rowS 0 c (rem c 32) (gone c 32) 0
        ∗ (rowPts c (shareDrop fullShare 32) (slotOf c) X.fin ∗ rowPts c (shareTok fullShare 32 c) (slotOf c) X.fin) ∗ K ∗ E ∗ R)
      ⊢ iprop(Ctx X ∗ rowPts c (shareDrop fullShare 32) Finset.univ X.fin ∗ E ∗ (owesE c 0 ∗ rowAt c 1 ∗ toks X c ∗ K) ∗ R) := by
  unfold Wt
  rw [rem_last, gone_last, bigSep_sep', bigSep_sep', bigSep_sep']
  have hsp : (bigSep (others c) fun s => (sched X).payload ((c : Thread nD τ), .dma (rowS s)) 0 0)
      ⊢ iprop((bigSep (others c) fun s => rowPts c (shareDrop fullShare 32) (slotOf s) X.fin)
        ∗ bigSep (others c) fun s => bigSep (Finset.univ : Finset (Dev nD)) fun t => rowPts c (shareTok fullShare 32 t) (slotOf s) X.fin) := by
    rw [← bigSep_sep']
    refine bigSep_mono fun s _ => ?_
    rw [payload_row]
    exact (row_toks c (slotOf s) X.fin).1
  iintro ⟨HC, ⟨HO, -, Ha, -, HP⟩, ⟨HFd, HFt⟩, HK, HE, HR⟩
  ihave HP' := hsp $$ HP
  icases HP' with ⟨HPd, HPt⟩
  isplitl [HC]; · iexact HC
  isplitl [HPd HFd]
  · rw [row_parts c c]
    isplitl [HFd]; · iexact HFd
    iexact HPd
  isplitl [HE]; · iexact HE
  isplitl [HO Ha HFt HPt HK]
  · isplitl [HO]; · iexact HO
    isplitl [Ha]; · iexact Ha
    isplitl [HFt HPt]
    · isplitl [HFt]; · iexact HFt
      iexact HPt
    iexact HK
  iexact HR

/-- With the result written the device waits for the sends of its finished rows. -/
theorem to_out {c : Dev nD} {A B G K0 K R : sProp 𝕄} :
    iprop(Ctx X ∗ A ∗ B ∗ (owesE c 0 ∗ G ∗ toks X c ∗ sndCr c ∗ K0 ∗ sndAt c 1 ∗ K) ∗ R)
      ⊢ iprop(Ctx X ∗ Wt X sendS 1 c (rem c 1) (gone c 1) 0 ∗ A ∗ B ∗ G ∗ toks X c ∗ K0 ∗ K ∗ R) := by
  unfold Wt
  rw [rem_one, gone_one, bigSep_empty, bigSep_sep']
  iintro ⟨HC, HA, HB, ⟨HO, HG, HT, HD, HK0, Hs, HK⟩, HR⟩
  isplitl [HC]; · iexact HC
  isplitl [HO HD Hs]
  · isplitl [HO]; · iexact HO
    isplitl [HD Hs]
    · isplitl [HD] <;> iassumption
    iempintro
  isplitl [HA]; · iexact HA
  isplitl [HB]; · iexact HB
  isplitl [HG]; · iexact HG
  isplitl [HT]; · iexact HT
  isplitl [HK0]; · iexact HK0
  isplitl [HK] <;> iassumption

/-! ## The end: every cell closed -/

/-- A cell whose remaining rounds have no duties closes, its counter at zero. -/
theorem close_cell {g : GSem nD τ sig} {r : ℕ} (hd : ∀ r', r ≤ r' → (sched X).duties g r' = ∅) :
    iprop(Known X g ∗ atPos ER g r ∅ 0) ⊢ iprop(|={Set.univ}=> semVal g 0 : sProp 𝕄) := by
  unfold Known
  iintro ⟨⟨⟨%κ, HI⟩, -⟩, Ha⟩
  iapply (Rounds.cell_close ER (sched X) (κ := κ) (Set.mem_univ _) (fun h => h) hd)
  isplitl [HI] <;> iassumption

/-- The cells of one direction close: the device's own, never used, and the others'. -/
theorem close_cells {c : Dev nD} {g : Dev nD → GSem nD τ sig} {r : ℕ} (hK : ∀ s, Ctx X ⊢ Known X (g s))
    (h0 : ∀ r', (sched X).duties (g c) r' = ∅) (hd : ∀ s, s ≠ c → ∀ r', r ≤ r' → (sched X).duties (g s) r' = ∅) :
    iprop(Ctx X ∗ atPos ER (g c) 0 ∅ 0 ∗ bigSep (others c) fun s => atPos ER (g s) r ∅ 0)
      ⊢ iprop(|={Set.univ}=> bigSep (Finset.univ : Finset (Dev nD)) fun s => semVal (g s) 0 : sProp 𝕄) := by
  have h1 : iprop(Ctx X ∗ atPos ER (g c) 0 ∅ 0) ⊢ iprop(|={Set.univ}=> semVal (g c) 0 : sProp 𝕄) :=
    (sep_mono_left (hK c)).trans (close_cell X fun r' _ => h0 r')
  have h2 : iprop(Ctx X ∗ bigSep (others c) fun s => atPos ER (g s) r ∅ 0)
      ⊢ iprop(|={Set.univ}=> bigSep (others c) fun s => semVal (g s) 0 : sProp 𝕄) :=
    (bigSep_with_persistent fun s hs => (sep_mono_left (hK s)).trans (close_cell X (hd s (Finset.mem_erase.mp hs).1))).trans (bigSep_fupd _ _)
  rw [bigSep_univ_at _ c]
  iintro ⟨#HC, H0, HS⟩
  imod h1 $$ [H0] with H0
  · isplitr; · iexact HC
    iexact H0
  imod h2 $$ [HS] with HS
  · isplitr; · iexact HC
    iexact HS
  imodintro
  isplitl [H0] <;> iassumption

/-- The device's cells for itself have no duty. -/
theorem duties_own (c : Dev nD) (q : DmaSem sig) (h : semDev q.val = c) (r : ℕ) : (sched X).duties ((c : Thread nD τ), .dma q) r = ∅ := by
  rw [duties_dma, if_neg]
  unfold rounds
  rw [if_pos (Or.inr h)]
  omega

/-- At the end every cell is closed and the memory is whole again. -/
theorem close_all {c : Dev nD} {I : Inp F} {w : Vec F S1024x1024 .f32} :
    iprop(Ctx X ∗ Wt X sendS 1 c (rem c 32) (gone c 32) 0 ∗ rowPts c (shareDrop fullShare 32) Finset.univ X.fin ∗ outPts c w
        ∗ rowAt c 1 ∗ toks X c ∗ stgPts c Finset.univ (X.stg c)
        ∗ (sumPts c Finset.univ (X.sums c) ∗ sumAt c 1 ∗ inPts c I ∗ atPos ER (barC c) 1 ∅ 0) ∗ ownAt c)
      ⊢ iprop(|={Set.univ}=> Final c I w) := by
  unfold Wt
  rw [rem_last, gone_last, bigSep_sep', bigSep_sep', bigSep_sep']
  have hB : iprop(Ctx X ∗ atPos ER (barC c) 1 ∅ 0) ⊢ iprop(|={Set.univ}=> semVal (barC c) 0 : sProp 𝕄) :=
    (sep_mono_left (ctx_bar X c)).trans (close_cell X fun r' hr => by
      show xDuties (barC c) r' = ∅
      unfold xDuties
      exact if_neg (by omega))
  have hS := close_cells X (c := c) (g := fun s => sendC c s) (r := 2) (fun s => ctx_send X c s)
    (fun r' => duties_own X c _ (semDev_send c) r') (fun s hs r' hr => by
      show (sched X).duties ((c : Thread nD τ), .dma (sendS s)) r' = ∅
      rw [duties_dma, rounds_send c hs, if_neg (by omega)])
  have hM := close_cells X (c := c) (g := fun s => sumC c s) (r := 1) (fun s => ctx_sum X c s)
    (fun r' => duties_own X c _ (semDev_sum c) r') (fun s hs r' hr => by
      show (sched X).duties ((c : Thread nD τ), .dma (sumS s)) r' = ∅
      rw [duties_dma, rounds_sum c hs, if_neg (by omega)])
  have hR := close_cells X (c := c) (g := fun s => rowC c s) (r := 1) (fun s => ctx_row X c s)
    (fun r' => duties_own X c _ (semDev_row c) r') (fun s hs r' hr => by
      show (sched X).duties ((c : Thread nD τ), .dma (rowS s)) r' = ∅
      rw [duties_dma, rounds_row c hs, if_neg (by omega)])
  have hP : iprop(rowPts c (shareDrop fullShare 32) Finset.univ X.fin ∗ toks X c ∗ bigSep (others c) fun t => rowPts c (shareTok fullShare 32 t) (slotOf c) X.fin)
      ⊢ rowPts c fullShare Finset.univ X.fin := by
    rw [row_parts c c, row_parts c c]
    iintro ⟨⟨Hd, Hds⟩, ⟨Ht, Hts⟩, Hto⟩
    isplitl [Hd Ht Hto]
    · iapply (row_toks c (slotOf c) X.fin).2
      isplitl [Hd]; · iexact Hd
      rw [bigSep_univ_at _ c]
      isplitl [Ht] <;> iassumption
    · have hj : iprop((bigSep (others c) fun s => rowPts c (shareDrop fullShare 32) (slotOf s) X.fin)
          ∗ bigSep (others c) fun s => bigSep (Finset.univ : Finset (Dev nD)) fun t => rowPts c (shareTok fullShare 32 t) (slotOf s) X.fin)
          ⊢ bigSep (others c) fun s => rowPts c fullShare (slotOf s) X.fin := by
        rw [← bigSep_sep']
        exact bigSep_mono fun s _ => (row_toks c (slotOf s) X.fin).2
      iapply hj
      isplitl [Hds] <;> iassumption
  unfold Final
  iintro ⟨#HC, ⟨HO, -, Hs, -, HPt⟩, HD, Hw, Hra, Htk, Hstg, ⟨Hsum, Hsa, HI, Hba⟩, ⟨Ho1, Ho2, Ho3⟩⟩
  imod hB $$ [Hba] with Hba
  · isplitr; · iexact HC
    iexact Hba
  imod hS $$ [Ho1 Hs] with Hs
  · isplitr; · iexact HC
    isplitl [Ho1]; · iexact Ho1
    iexact Hs
  imod hM $$ [Ho2 Hsa] with Hsa
  · isplitr; · iexact HC
    isplitl [Ho2]; · iexact Ho2
    iexact Hsa
  imod hR $$ [Ho3 Hra] with Hra
  · isplitr; · iexact HC
    isplitl [Ho3]; · iexact Ho3
    iexact Hra
  imodintro
  isplitl [HO]; · iexact HO
  isplitl [HI]; · iexact HI
  isplitl [Hw]; · iexact Hw
  isplitl [Hba]; · iexact Hba
  isplitl [Hs]; · iexact Hs
  isplitl [Hsa]; · iexact Hsa
  isplitl [Hra]; · iexact Hra
  isplitl [Hstg]; · iexists _; iexact Hstg
  isplitl [Hsum]; · iexists _; iexact Hsum
  iexists X.fin
  iapply hP
  isplitl [HD]; · iexact HD
  isplitl [Htk]; · iexact Htk
  iapply (paid_rows X c); iexact HPt

end Cert.KernelIdeal.Dist
-- ==== Proof.Deal.lean ====
/-
  What the launch deals: the cells' round states and positions, every device's tokens, and the credits for what the
  other devices owe it; and that from them every device holds what its body starts with.
-/
module

public import proofs.«01_k».proof.Proof.Moves
public import Idealize.ShloMosaic.Lib.Pipeline.Launch
public import Idealize.ShloMosaic.Lib.Pipeline.Kit

@[expose] public section

set_option maxRecDepth 16384

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (X : Moved F)

/-! ## The semaphores by family -/

/-- The 96 transfers' semaphores are three families of 32. -/
def families : Dev nD ⊕ (Dev nD ⊕ Dev nD) ≃ Fin 96 :=
  (Equiv.sumCongr (Equiv.refl (Fin 32)) (finSumFinEquiv (m := 32) (n := 32))).trans (finSumFinEquiv (m := 32) (n := 64))

/-- The first family of semaphores is the send ones. -/
theorem fam_send (t : Dev nD) : osem (families (.inl t)) = .dma (sendS t) := rfl
/-- The second family is the first landing ones. -/
theorem fam_sum (t : Dev nD) : osem (families (.inr (.inl t))) = .dma (sumS t) :=
  congrArg SemLoc.dma (Fin.ext (by show 5 + (32 + t.val) = 37 + t.val; omega))
/-- The third family is the second landing ones. -/
theorem fam_row (t : Dev nD) : osem (families (.inr (.inr t))) = .dma (rowS t) :=
  congrArg SemLoc.dma (Fin.ext (by show 5 + (32 + (32 + t.val)) = 69 + t.val; omega))

/-- Over the transfers' semaphores: over the sends', the sums' and the rows'. -/
theorem over_own (c : Dev nD) (Φ : GSem nD τ sig → sProp 𝕄) :
    (bigSep Finset.univ fun i : Fin 96 => Φ ((c : Thread nD τ), osem i))
      = iprop((bigSep (Finset.univ : Finset (Dev nD)) fun t => Φ (sendC c t)) ∗ (bigSep (Finset.univ : Finset (Dev nD)) fun t => Φ (sumC c t))
          ∗ bigSep (Finset.univ : Finset (Dev nD)) fun t => Φ (rowC c t)) := by
  rw [bigSep_univ_equiv families, bigSep_univ_sum, bigSep_univ_sum]
  simp only [fam_send, fam_sum, fam_row]
  rfl

/-- Over a device's cells: its barrier's, the sends', the sums' and the rows'. -/
theorem over_cells (c : Dev nD) (Φ : GSem nD τ sig → sProp 𝕄) :
    (bigSep Finset.univ fun k : Option (Fin 96) => Φ (kcell (c, k)))
      = iprop(Φ (barC c) ∗ bigSep Finset.univ fun i : Fin 96 => Φ ((c : Thread nD τ), osem i)) := by
  rw [bigSep_univ_equiv (Equiv.optionEquivSumPUnit.{0} (Fin 96)).symm, bigSep_univ_sum, Fintype.univ_punit, bigSep_singleton]
  exact BI.equiv_iff.mp ⟨BI.sep_comm, BI.sep_comm⟩

/-- Different numbers name different semaphores. -/
theorem osem_injective : Function.Injective osem := fun i j h => by
  have h1 := congrArg (fun s : SemLoc sig => match s with | .dma q => q.val | .reg _ => 0) h
  have h2 : 5 + i.val = 5 + j.val := h1
  exact Fin.ext (by omega)

/-- Different devices or numbers name different cells. -/
theorem kcell_injective : Function.Injective (kcell : Dev nD × Option (Fin 96) → GSem nD τ sig) := by
  rintro ⟨c, k⟩ ⟨c', k'⟩ h
  have h1 : c = c' := congrArg (fun g : GSem nD τ sig => g.1.1) h
  subst h1
  have h2 := congrArg Prod.snd h
  match k, k' with
  | none, none => rfl
  | none, some j => exact absurd h2 (by simp)
  | some i, none => exact absurd h2 (by simp)
  | some i, some j => exact congrArg (fun i => (c, some i)) (osem_injective h2)

/-- Every device's cells. -/
def allCells : Finset (GSem nD τ sig) := Finset.univ.map ⟨kcell, kcell_injective⟩

/-! ## The tokens, each by the device that pays it -/

/-- The duty that device `c` pays to device `t`, of five kinds: its barrier signal, its partial sums' landing, their
    transfer's end, its finished rows' landing, their transfer's end. -/
abbrev tokOf (x : Dev nD × Dev nD × Fin 5) : GSem nD τ sig × ℕ × Dev nD :=
  match x.2.2 with
  | 0 => (barC x.2.1, 0, x.1)
  | 1 => (sumC x.2.1 x.1, 0, 0)
  | 2 => (sendC x.1 x.2.1, 0, 0)
  | 3 => (rowC x.2.1 x.1, 0, 0)
  | 4 => (sendC x.1 x.2.1, 1, 0)

/-- Which kind a token is of, told from its cell and round. -/
def kindOf (y : GSem nD τ sig × ℕ × Dev nD) : Fin 5 :=
  match y.1.2 with
  | .reg _ => 0
  | .dma q => if q.val < 37 then (if y.2.1 = 0 then 2 else 4) else if q.val < 69 then 1 else 3

/-- A token's kind can be read off it. -/
theorem kindOf_tokOf (x : Dev nD × Dev nD × Fin 5) : kindOf (tokOf x) = x.2.2 := by
  obtain ⟨c, t, k⟩ := x
  have hc : c.val < 32 := c.isLt
  have ht : t.val < 32 := t.isLt
  match k with
  | 0 => rfl
  | 1 => show (if 37 + c.val < 37 then _ else if 37 + c.val < 69 then (1 : Fin 5) else 3) = 1
         rw [if_neg (by omega), if_pos (by omega)]
  | 2 => show (if 5 + t.val < 37 then (2 : Fin 5) else _) = 2
         rw [if_pos (by omega)]
  | 3 => show (if 69 + c.val < 37 then _ else if 69 + c.val < 69 then (1 : Fin 5) else 3) = 3
         rw [if_neg (by omega), if_neg (by omega)]
  | 4 => show (if 5 + t.val < 37 then (4 : Fin 5) else _) = 4
         rw [if_pos (by omega)]

/-- Equal transfer semaphores have equal numbers. -/
theorem dma_val {q q' : DmaSem sig} (h : (SemLoc.dma q : SemLoc sig) = .dma q') : q.val = q'.val :=
  congrArg (fun s : SemLoc sig => match s with | .dma q => q.val | .reg _ => 0) h

/-- Different pairs or kinds have different tokens. -/
theorem tokOf_injective : Function.Injective tokOf := by
  rintro ⟨c, t, k⟩ ⟨c', t', k'⟩ h
  have hk : k = k' := (kindOf_tokOf (c, t, k)).symm.trans ((congrArg kindOf h).trans (kindOf_tokOf (c', t', k')))
  subst hk
  have hdev := congrArg (fun y : GSem nD τ sig × ℕ × Dev nD => y.1.1.1) h
  have hsem := congrArg (fun y : GSem nD τ sig × ℕ × Dev nD => y.1.2) h
  have hlast := congrArg (fun y : GSem nD τ sig × ℕ × Dev nD => y.2.2) h
  match k with
  | 0 => exact Prod.ext hlast (Prod.ext hdev rfl)
  | 1 => have h1 : 37 + c.val = 37 + c'.val := dma_val hsem
         have h2 : c = c' := Fin.ext (by omega)
         exact Prod.ext h2 (Prod.ext hdev rfl)
  | 2 => have h1 : 5 + t.val = 5 + t'.val := dma_val hsem
         have h2 : t = t' := Fin.ext (by omega)
         exact Prod.ext hdev (Prod.ext h2 rfl)
  | 3 => have h1 : 69 + c.val = 69 + c'.val := dma_val hsem
         have h2 : c = c' := Fin.ext (by omega)
         exact Prod.ext h2 (Prod.ext hdev rfl)
  | 4 => have h1 : 5 + t.val = 5 + t'.val := dma_val hsem
         have h2 : t = t' := Fin.ext (by omega)
         exact Prod.ext hdev (Prod.ext h2 rfl)

/-- Every token. -/
def allToks : Finset (GSem nD τ sig × ℕ × Dev nD) := Finset.univ.map ⟨tokOf, tokOf_injective⟩

/-- The tokens of the duties device `c` pays. -/
def pays (c : Dev nD) : sProp 𝕄 :=
  bigSep (Finset.univ : Finset (Dev nD)) fun t =>
    iprop(dutyTok ER (barC t) 0 c ∗ dutyTok ER (sumC t c) 0 0 ∗ dutyTok ER (sendC c t) 0 0 ∗ dutyTok ER (rowC t c) 0 0 ∗ dutyTok ER (sendC c t) 1 0)

/-- A conjunction over the five kinds, written out. -/
theorem over_kinds (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-! ## The launch's element -/

/-- The launch's element: the pipeline's and the exchange's. -/
def u₀ : UU := (initOf (Pipeline.cells cfgs cellOf_inj) (Pipeline.launchToks cfgs cellOf_inj), initOf allCells allToks)

/-- What it deals device `c`. -/
def Deal (c : Dev nD) : sProp 𝕄 :=
  iprop((bigSep Finset.univ fun k : Option (Fin 96) => roundState ER (sched X) (kcell (c, k)) 0)
    ∗ (bigSep Finset.univ fun k : Option (Fin 96) => iprop(atPos ER (kcell (c, k)) 0 ∅ 0 ∗ reached ER (kcell (c, k)) 0)) ∗ pays c)

/-- The cells' initial resource pays what every device is dealt. -/
theorem fund_deal : BI.own (ER (initOf allCells allToks)) ⊢ (|==> bigSep Finset.univ (Deal X) : sProp 𝕄) := by
  have hC (Φ : GSem nD τ sig → sProp 𝕄) :
      bigSep allCells Φ = bigSep Finset.univ fun c : Dev nD => bigSep Finset.univ fun k : Option (Fin 96) => Φ (kcell (c, k)) := by
    unfold allCells; rw [bigSep_map, bigSep_univ_prod]; rfl
  have hT : bigSep allToks (fun x => (dutyTok ER x.1 x.2.1 x.2.2 : sProp 𝕄)) = bigSep Finset.univ fun c : Dev nD => pays c := by
    unfold allToks pays
    rw [bigSep_map, bigSep_univ_prod]
    refine bigSep_congr fun c _ => ?_
    rw [bigSep_univ_prod]
    exact bigSep_congr fun t _ => over_kinds _
  have hf := Rounds.fund (ER (F := F)) (sched X) allCells allToks
  rw [hC, hC, hC, hT] at hf
  unfold Deal
  simp only [bigSep_sep']
  iintro HX
  imod hf $$ HX with ⟨Hst, Hr, Hat, Htok⟩
  imodintro
  isplitl [Hst]; · iexact Hst
  isplitl [Hat Hr]
  · isplitl [Hat] <;> iassumption
  iexact Htok

/-! ## The cells' invariants -/

/-- Every cell's invariant, and that it has reached round 0. -/
def AllKnown : sProp 𝕄 := bigSep Finset.univ fun ck : Dev nD × Option (Fin 96) =>
  iprop((∃ κ, cellInv ER (sched X) κ (kcell ck)) ∗ reached ER (kcell ck) 0)

instance AllKnown_persistent : BI.Persistent (AllKnown X) := by unfold AllKnown; infer_instance

/-- What device `c` has of the launch: the invariants, its positions, its tokens. -/
def Dealt (c : Dev nD) : sProp 𝕄 :=
  iprop(AllKnown X ∗ (bigSep Finset.univ fun k : Option (Fin 96) => atPos ER (kcell (c, k)) 0 ∅ 0) ∗ pays c)

/-- Device `c`'s semaphores, all at zero. -/
theorem sems_zero (c : Dev nD) :
    iprop(Pipeline.ownSems0 (Ix := Unit) (Name := ℕ) (U := UU) (Lvl := ℕ) (Val := Elt F) (τ := τ) osem c ∗ unscopedSems0 c)
      = (bigSep Finset.univ fun k : Option (Fin 96) => semVal (kcell (c, k)) 0 : sProp 𝕄) := by
  have hu : (unscopedSems0 c : sProp 𝕄) = semVal (barC c) 0 := by
    unfold unscopedSems0; rw [bigSep_eq_bigSepL_of_eq [SemLoc.reg barS] (by decide) (by decide)]; rfl
  rw [hu, over_cells c fun g => semVal g 0]
  exact BI.equiv_iff.mp ⟨BI.sep_comm, BI.sep_comm⟩

/-- Each device's counters at zero become cells with their protocol. -/
theorem core_alloc (c : Dev nD) :
    iprop(Pipeline.ownSems0 (Ix := Unit) (Name := ℕ) (U := UU) (Lvl := ℕ) (Val := Elt F) (τ := τ) osem c ∗ unscopedSems0 c ∗ Deal X c)
      ⊢ |={Set.univ}=> iprop((bigSep Finset.univ fun k : Option (Fin 96) => iprop((∃ κ : ℕ, cellInv ER (sched X) κ (kcell (c, k))) ∗ reached ER (kcell (c, k)) 0))
          ∗ (bigSep Finset.univ fun k : Option (Fin 96) => atPos ER (kcell (c, k)) 0 ∅ 0) ∗ pays c) := by
  have halloc : iprop((bigSep Finset.univ fun k : Option (Fin 96) => semVal (kcell (c, k)) 0)
        ∗ bigSep Finset.univ fun k : Option (Fin 96) => roundState ER (sched X) (kcell (c, k)) 0)
      ⊢ (|={Set.univ}=> bigSep Finset.univ fun k : Option (Fin 96) => iprop(∃ κ : ℕ, cellInv ER (sched X) κ (kcell (c, k))) : sProp 𝕄) := by
    rw [← bigSep_sep']
    exact (bigSep_mono fun k _ => (Rounds.body_intro ER (sched X) (kcell (c, k))).trans inv_alloc).trans (bigSep_fupd _ _)
  unfold Deal
  iintro ⟨Hos, Hus, Hst, Hat, Htok⟩
  ihave Hv := (Entails.of_eq (sems_zero (F := F) c)) $$ [Hos Hus]
  · isplitl [Hos] <;> iassumption
  imod halloc $$ [Hv Hst] with Hinv
  · isplitl [Hv] <;> iassumption
  imodintro
  simp only [bigSep_sep']
  icases Hat with ⟨Hat, Hr⟩
  isplitl [Hinv Hr]
  · isplitl [Hinv] <;> iassumption
  isplitl [Hat] <;> iassumption

/-- The invariants are every device's. -/
theorem share_known :
    (bigSep Finset.univ fun c : Dev nD => iprop((bigSep Finset.univ fun k : Option (Fin 96) =>
          iprop((∃ κ : ℕ, cellInv ER (sched X) κ (kcell (c, k))) ∗ reached ER (kcell (c, k)) 0))
        ∗ (bigSep Finset.univ fun k : Option (Fin 96) => atPos ER (kcell (c, k)) 0 ∅ 0) ∗ pays c) : sProp 𝕄)
      ⊢ bigSep Finset.univ (Dealt X) := by
  rw [bigSep_sep', ← bigSep_univ_prod (fun ck : Dev nD × Option (Fin 96) =>
    (iprop((∃ κ : ℕ, cellInv ER (sched X) κ (kcell ck)) ∗ reached ER (kcell ck) 0) : sProp 𝕄))]
  refine (sep_mono_left (BI.bigSep_of_persistent (Finset.univ : Finset (Dev nD)) (AllKnown X))).trans ?_
  rw [← bigSep_sep']
  exact bigSep_mono fun c _ => by unfold Dealt; exact BI.Entails.refl _

/-- The invariants of all devices' cells, made at once. -/
theorem glob : (bigSep Finset.univ fun c => iprop(Pipeline.ownSems0 (Ix := Unit) (Name := ℕ) (U := UU) (Lvl := ℕ) (Val := Elt F) (τ := τ) osem c
      ∗ unscopedSems0 c ∗ Deal X c) : sProp 𝕄)
    ⊢ |={Set.univ}=> bigSep Finset.univ (Dealt X) :=
  ((bigSep_mono fun c _ => core_alloc X c).trans (bigSep_fupd _ _)).trans (BI.fupd_mono (share_known X))

/-! ## The credits -/

/-- What device `c` owes at launch: a unit to every other device's barrier, and both landings. -/
def O₀ (c : Dev nD) : CellTallies nD τ sig Unit := owed0 c + owBar (rem c 1)

/-- A sum of debts at different cells, looked up at one of them. -/
theorem tally_sum_of_mem {f : Dev nD → GSem nD τ sig} (hf : Function.Injective f) (S : Finset (Dev nD)) (n : ℕ) (a : Dev nD) :
    (∑ t ∈ S, (tallyAt (f t) () n : CellTallies nD τ sig Unit)) (f a) () = if a ∈ S then n else 0 := by
  rw [Finset.sum_apply, Finsupp.finset_sum_apply]
  simp only [tallyAt_apply, and_true, hf.eq_iff]
  rw [Finset.sum_ite_eq]
/-- A sum of debts looked up at a cell that is none of them. -/
theorem tally_sum_of_ne {f : Dev nD → GSem nD τ sig} (S : Finset (Dev nD)) (n : ℕ) (g : GSem nD τ sig) (h : ∀ t, g ≠ f t) :
    (∑ t ∈ S, (tallyAt (f t) () n : CellTallies nD τ sig Unit)) g () = 0 := by
  rw [Finset.sum_apply, Finsupp.finset_sum_apply]
  exact Finset.sum_eq_zero fun t _ => by rw [tallyAt_apply, if_neg fun hh => h t hh.1]

/-- Different devices have different barriers. -/
theorem bar_inj : Function.Injective (barC : Dev nD → GSem nD τ sig) := fun a b h => congrArg (fun g : GSem nD τ sig => g.1.1) h
/-- A device's first landing cells at different devices differ. -/
theorem sum_inj (c : Dev nD) : Function.Injective (fun t : Dev nD => sumC t c) := fun a b h => congrArg (fun g : GSem nD τ sig => g.1.1) h
/-- A device's second landing cells at different devices differ. -/
theorem row_inj (c : Dev nD) : Function.Injective (fun t : Dev nD => rowC t c) := fun a b h => congrArg (fun g : GSem nD τ sig => g.1.1) h
/-- A barrier is no transfer's cell. -/
theorem bar_ne (c t : Dev nD) (q : DmaSem sig) : barC c ≠ ((t : Thread nD τ), SemLoc.dma q) := fun h => by
  have := congrArg Prod.snd h; simp at this
/-- The landing cells of the two phases differ. -/
theorem sum_ne_row (c s t d : Dev nD) : sumC c s ≠ rowC t d := fun h => by
  have h1 : 37 + s.val = 69 + d.val := dma_val (congrArg Prod.snd h)
  have h2 : s.val < 32 := s.isLt
  omega
/-- Equal first landing cells have the same source. -/
theorem sum_src {c s t d : Dev nD} (h : sumC c s = sumC t d) : s = d := by
  have h1 : 37 + s.val = 37 + d.val := dma_val (congrArg Prod.snd h)
  exact Fin.ext (by omega)
/-- Equal second landing cells have the same source. -/
theorem row_src {c s t d : Dev nD} (h : rowC c s = rowC t d) : s = d := by
  have h1 : 69 + s.val = 69 + d.val := dma_val (congrArg Prod.snd h)
  exact Fin.ext (by omega)

/-- Every other device owes a barrier one signal. -/
theorem owed_bar (d c : Dev nD) : O₀ d (barC c) () = if d = c then 0 else 1 := by
  unfold O₀ owed0 owRow owSum owBar
  rw [Pi.add_apply, Finsupp.add_apply, Pi.add_apply, Finsupp.add_apply, tally_sum_of_ne _ _ _ (fun t => bar_ne c t _),
    tally_sum_of_ne _ _ _ (fun t => bar_ne c t _), tally_sum_of_mem bar_inj, rem_one, zero_add, zero_add]
  by_cases h : d = c
  · rw [if_pos h, if_neg (fun hc => (Finset.mem_erase.mp hc).1 h.symm)]
  · rw [if_neg h, if_pos (Finset.mem_erase.mpr ⟨fun hc => h hc.symm, Finset.mem_univ _⟩)]

/-- Only the source owes a first landing cell a transfer. -/
theorem owed_sum (d c s : Dev nD) (hs : s ≠ c) : O₀ d (sumC c s) () = if d = s then N else 0 := by
  unfold O₀ owed0 owRow owSum owBar
  rw [Pi.add_apply, Finsupp.add_apply, Pi.add_apply, Finsupp.add_apply, tally_sum_of_ne _ _ _ (fun t => sum_ne_row c s t _),
    tally_sum_of_ne _ _ _ (fun t => (bar_ne t c _).symm), zero_add, add_zero]
  by_cases h : d = s
  · subst h
    rw [tally_sum_of_mem (sum_inj d), if_pos rfl, if_pos (Finset.mem_erase.mpr ⟨fun hc => hs hc.symm, Finset.mem_univ _⟩)]
  · rw [tally_sum_of_ne _ _ _ (fun t hh => h (sum_src hh).symm), if_neg h]

/-- Only the source owes a second landing cell a transfer. -/
theorem owed_row (d c s : Dev nD) (hs : s ≠ c) : O₀ d (rowC c s) () = if d = s then N else 0 := by
  unfold O₀ owed0 owRow owSum owBar
  rw [Pi.add_apply, Finsupp.add_apply, Pi.add_apply, Finsupp.add_apply, tally_sum_of_ne (f := fun t => sumC t d) _ _ _ (fun t => (sum_ne_row t d c s).symm),
    tally_sum_of_ne _ _ _ (fun t => (bar_ne t c _).symm), add_zero, add_zero]
  by_cases h : d = s
  · subst h
    rw [tally_sum_of_mem (row_inj d), if_pos rfl, if_pos (Finset.mem_erase.mpr ⟨fun hc => hs hc.symm, Finset.mem_univ _⟩)]
  · rw [tally_sum_of_ne _ _ _ (fun t hh => h (row_src hh).symm), if_neg h]

/-- A cell's credit at the launch is all that the devices owe it. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- At the launch a barrier has credit for thirty-one signals. -/
theorem launch_bar (c : Dev nD) : tallyOn (barC c) (launchCredit (Pipeline.owing O₀) 0 (barC c)) = (tallyAt (barC c) () 31 : CellTallies nD τ sig Unit) :=
  launch_at _ _ (by
    rw [Finset.sum_congr rfl fun d _ => owed_bar d c]
    revert c; decide)
/-- At the launch a first landing cell has credit for one transfer. -/
theorem launch_sum (c s : Dev nD) (hs : s ≠ c) :
    tallyOn (sumC c s) (launchCredit (Pipeline.owing O₀) 0 (sumC c s)) = (tallyAt (sumC c s) () N : CellTallies nD τ sig Unit) :=
  launch_at _ _ (by
    rw [Finset.sum_congr rfl fun d _ => owed_sum d c s hs, Finset.sum_ite_eq' Finset.univ s fun _ => N, if_pos (Finset.mem_univ _)])
/-- At the launch a second landing cell has credit for one transfer. -/
theorem launch_row (c s : Dev nD) (hs : s ≠ c) :
    tallyOn (rowC c s) (launchCredit (Pipeline.owing O₀) 0 (rowC c s)) = (tallyAt (rowC c s) () N : CellTallies nD τ sig Unit) :=
  launch_at _ _ (by
    rw [Finset.sum_congr rfl fun d _ => owed_row d c s hs, Finset.sum_ite_eq' Finset.univ s fun _ => N, if_pos (Finset.mem_univ _)])

/-- The semaphores of the sums' landings, and of the rows'. -/
def sumEmb : Dev nD ↪ SemLoc sig := ⟨fun s => .dma (sumS s), fun a b h => by
  have h1 : 37 + a.val = 37 + b.val := dma_val h
  exact Fin.ext (by omega)⟩
def rowEmb : Dev nD ↪ SemLoc sig := ⟨fun s => .dma (rowS s), fun a b h => by
  have h1 : 69 + a.val = 69 + b.val := dma_val h
  exact Fin.ext (by omega)⟩

/-- The launch's credit of a device, by barrier and landing cells. -/
theorem creds (c : Dev nD) :
    (Pipeline.launchCred O₀ c : sProp 𝕄) ⊢ iprop(cred (tallyAt (barC c) () 31)
      ∗ (bigSep (others c) fun s => cred (tallyAt (sumC c s) () N)) ∗ bigSep (others c) fun s => cred (tallyAt (rowC c s) () N)) := by
  unfold Pipeline.launchCred
  rw [bigSep_univ_at _ (SemLoc.reg barS), launch_bar]
  refine sep_mono_right ?_
  have hd : Disjoint ((others c).map sumEmb) ((others c).map rowEmb) := by
    rw [Finset.disjoint_left]
    intro x hx hy
    obtain ⟨s, -, rfl⟩ := Finset.mem_map.mp hx
    obtain ⟨t, -, h⟩ := Finset.mem_map.mp hy
    have h1 : 69 + t.val = 37 + s.val := dma_val h
    have h2 : s.val < 32 := s.isLt
    omega
  refine (bigSep_subset (t := (others c).map sumEmb ∪ (others c).map rowEmb) fun x hx => ?_).trans ?_
  · refine Finset.mem_erase.mpr ⟨fun h => ?_, Finset.mem_univ _⟩
    subst h
    rcases Finset.mem_union.mp hx with h | h <;> obtain ⟨t, -, h⟩ := Finset.mem_map.mp h <;> exact absurd h (by simp [sumEmb, rowEmb])
  · rw [bigSep_union hd, bigSep_map, bigSep_map]
    refine sep_mono ?_ ?_
    · exact bigSep_mono fun s hs => Entails.of_eq (congrArg cred (launch_sum c s (Finset.mem_erase.mp hs).1))
    · exact bigSep_mono fun s hs => Entails.of_eq (congrArg cred (launch_row c s (Finset.mem_erase.mp hs).1))

/-! ## What a body starts with -/

/-- The launch's share of device `c`, levels and credits with it. -/
def Begun (c : Dev nD) : sProp 𝕄 := iprop(Ctx X ∗ (bigSep Finset.univ fun k : Option (Fin 96) => atPos ER (kcell (c, k)) 0 ∅ 0) ∗ pays c
  ∗ cred (tallyAt (barC c) () 31) ∗ (bigSep (others c) fun s => cred (tallyAt (sumC c s) () N)) ∗ bigSep (others c) fun s => cred (tallyAt (rowC c s) () N))

/-- What a device is dealt and its credit are what its body begins with. -/
theorem begun (c : Dev nD) : iprop(Dealt X c ∗ levAts L lv ∗ Pipeline.launchCred O₀ c) ⊢ Begun X c := by
  unfold Dealt Begun Ctx AllKnown
  iintro ⟨⟨HK, Hat, Hp⟩, HL, HC⟩
  isplitl [HK HL]
  · isplitl [HK] <;> iassumption
  isplitl [Hat]; · iexact Hat
  isplitl [Hp]; · iexact Hp
  iapply (creds (F := F) c); iexact HC

/-- With its buffers and its debts, that is what the body starts with. -/
theorem start_of (c : Dev nD) (I : Inp F) (f0 : StgT F) (f1 f2 : SlotT F) :
    iprop(Begun X c ∗ owesE c (O₀ c) ∗ inPts c I ∗ outEx (F := F) c ∗ stgPts c Finset.univ f0 ∗ sumPts c Finset.univ f1 ∗ rowPts c fullShare Finset.univ f2)
      ⊢ Start X c I := by
  unfold Begun Start Sig O₀ pays
  rw [over_cells c fun g => atPos ER g 0 ∅ 0, over_own c fun g => atPos ER g 0 ∅ 0, sum_parts c c, row_parts c c, rem_one,
    bigSep_univ_at (fun t : Dev nD => (atPos ER (sendC c t) 0 ∅ 0 : sProp 𝕄)) c,
    bigSep_univ_at (fun t : Dev nD => (atPos ER (sumC c t) 0 ∅ 0 : sProp 𝕄)) c, bigSep_univ_at (fun t : Dev nD => (atPos ER (rowC c t) 0 ∅ 0 : sProp 𝕄)) c,
    bigSep_univ_at (fun t : Dev nD => (iprop(dutyTok ER (barC t) 0 c ∗ dutyTok ER (sumC t c) 0 0 ∗ dutyTok ER (sendC c t) 0 0
      ∗ dutyTok ER (rowC t c) 0 0 ∗ dutyTok ER (sendC c t) 1 0) : sProp 𝕄)) c]
  unfold barPay
  simp only [bigSep_sep']
  have hs : (bigSep (others c) fun t => sumPts c (slotOf t) f1) ⊢ bigSep (others c) fun t => iprop(∃ f, sumPts (F := F) c (slotOf t) f) :=
    bigSep_mono fun t _ => (show sumPts c (slotOf t) f1 ⊢ iprop(∃ f, sumPts (F := F) c (slotOf t) f) by iintro H; iexists f1; iexact H)
  have hr : (bigSep (others c) fun t => rowPts c fullShare (slotOf t) f2) ⊢ bigSep (others c) fun t => iprop(∃ f, rowPts (F := F) c fullShare (slotOf t) f) :=
    bigSep_mono fun t _ => (show rowPts c fullShare (slotOf t) f2 ⊢ iprop(∃ f, rowPts (F := F) c fullShare (slotOf t) f) by iintro H; iexists f2; iexact H)
  iintro ⟨⟨HC, ⟨Hab, ⟨Has, Hass⟩, ⟨Hau, Haus⟩, Har, Hars⟩, ⟨-, Ht0, Ht1, Ht2, Ht3, Ht4⟩, Hcb, Hcs, Hcr⟩, HO, HI, Hout, Hst, ⟨Hu, Hus⟩, Hr, Hrs⟩
  ihave Hus := hs $$ Hus
  ihave Hrs := hr $$ Hrs
  isplitl [HC]; · iexact HC
  isplitl [HO Ht0 Hus Hrs]
  · isplitl [HO]; · iexact HO
    isplitl [Ht0]; · iexact Ht0
    isplitl [Hus] <;> iassumption
  isplitl [Hcb Hab]
  · isplitl [Hcb] <;> iassumption
  isplitl [Ht1 Ht2]
  · isplitl [Ht1] <;> iassumption
  isplitl [Hst]
  · unfold Up; rw [above_zero]; iexists f0; iexact Hst
  isplitl [HI]; · iexact HI
  isplitl [Hu]; · iexists f1; iexact Hu
  isplitl [Hr]; · iexists f2; iexact Hr
  isplitl [Hcs Haus]
  · isplitl [Hcs] <;> iassumption
  isplitl [Hass]; · iexact Hass
  isplitl [Ht3 Ht4]
  · isplitl [Ht3] <;> iassumption
  isplitl [Hcr Hars]
  · isplitl [Hcr] <;> iassumption
  isplitl [Hout]; · iexact Hout
  isplitl [Has]; · iexact Has
  isplitl [Hau] <;> iassumption

end Cert.KernelIdeal.Dist

end
-- ==== Proof.Body.lean ====
/-
  The kernel's body on one device: from what the launch gives it to the finished output.
-/
module

public import proofs.«01_k».proof.Proof.Moves

@[expose] public section

set_option maxRecDepth 16384

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Transfers (shareTok shareDrop)

variable {F : FTy → Type} [FloatOps F]

local notation "𝕄" => MT nD τ sig Unit (Elt F) ℕ UU ℕ

/-! ## The values stored -/

/-- What is staged in block `b` is what the device computes for it. -/
theorem stg_block (I : Dev nD → Inp F) (c : Dev nD) {b : ℕ} (hb : b < 4) {p : S1024x1024.Idx} (hp : p ∈ block b) :
    (movedOf I).stg c p = blkVal c (I c) b hb (ix2 (⟨(p 0).val % 256, Nat.mod_lt _ (by decide)⟩ : Fin 256) (⟨(p 1).val, (p 1).isLt⟩ : Fin 1024)) := by
  have h := (Finset.mem_filter.mp hp).2
  have hq : (p 0).val / 256 = b := by omega
  subst hq
  rfl

/-- The four blocks are computed alike: the second as the first. -/
theorem blk1 (v : BitVec 32) (x : Vec F S256x512 .f32) (i : Vec F S256x1 .i32) (w0 w1 w2 w3 : Vec F S1x512x1024 .f32) :
    k0_pay12 (k0_pay10 v (k0_pay6 x) (k0_pay7 (F := F) i) (k0_pay8 (F := F)) (k0_pay9 v) w0 w1 w2) (k0_pay11 v (k0_pay6 x) (k0_pay7 (F := F) i)) w3
      = k0_pay5 v (k0_pay1 x) (k0_pay2 (F := F) i) (k0_pay3 v x i w0) (k0_pay4 v x i) w1 w2 w3 := rfl
/-- The third as the first. -/
theorem blk2 (v : BitVec 32) (x : Vec F S256x512 .f32) (i : Vec F S256x1 .i32) (w0 w1 w2 w3 : Vec F S1x512x1024 .f32) :
    k0_pay16 v (k0_pay13 x) (k0_pay14 (F := F) i) (k0_pay15 v x i w0 w1) (Scalar.addi (Scalar.muli v 4#32) 2#32) w2 w3
      = k0_pay5 v (k0_pay1 x) (k0_pay2 (F := F) i) (k0_pay3 v x i w0) (k0_pay4 v x i) w1 w2 w3 := rfl
/-- The fourth as the first. -/
theorem blk3 (v : BitVec 32) (x : Vec F S256x512 .f32) (i : Vec F S256x1 .i32) (w0 w1 w2 w3 : Vec F S1x512x1024 .f32) :
    k0_pay23 (k0_pay22 v (k0_pay17 x) (k0_pay18 (F := F) i) (k0_pay19 (F := F)) (k0_pay20 v x i) (k0_pay21 w0) w1 w2 w3)
      = k0_pay5 v (k0_pay1 x) (k0_pay2 (F := F) i) (k0_pay3 v x i w0) (k0_pay4 v x i) w1 w2 w3 := rfl

/-- The rows a device keeps for itself go to its landing buffer as they were staged. -/
theorem own_sums (X : Moved F) (c : Dev nD) (r : Fin 32) (j : Fin 1024) :
    X.sums c (ix3 (⟨c.val, c.isLt⟩ : Fin 32) r j)
      = k0_pay24 (F := F) (fun j => X.stg c (ix2 (⟨32 * c.val + (j 0).val, by
          have h0 : c.val < 32 := c.isLt
          have h1 : (j 0).val < 32 := (j 0).isLt
          omega⟩ : Fin 1024) (⟨(j 1).val, (j 1).isLt⟩ : Fin 1024))) (ix3 (0 : Fin 1) r j) := by
  unfold k0_pay24
  refine Eq.trans ?_ (congrArg (fun f : S1x32x1024.Idx → F .bf16 => f (ix3 (0 : Fin 1) r j)) (shapeCast_self _ _)).symm
  refine Eq.trans ?_ (shapeCast_ab_1ab_apply (a := 32) (b := 1024) (fun j : S32x1024.Idx => X.stg c (ix2 (⟨32 * c.val + (j 0).val, by
    have h0 : c.val < 32 := c.isLt
    have h1 : (j 0).val < 32 := (j 0).isLt
    omega⟩ : Fin 1024) (⟨(j 1).val, (j 1).isLt⟩ : Fin 1024))) shapeCasts_S32x1024_S1x32x1024 (0 : Fin 1) r j).symm
  rfl

/-- The finished rows of a device are the sums of the rows landed on it. -/
theorem own_fin (I : Dev nD → Inp F) (c : Dev nD) (r : Fin 32) (j : Fin 1024) :
    (movedOf I).fin (ix3 (⟨c.val, c.isLt⟩ : Fin 32) r j) = k0_pay25 (F := F) ((movedOf I).sums c) (ix3 (0 : Fin 1) r j) := rfl

/-! ## The body -/

set_option maxHeartbeats 4000000 in
theorem body (I : Dev nD → Inp F) (c : Dev nD) :
    Start (movedOf I) c (I c) ⊢ WP c (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5) fun _ => iprop(|={Set.univ}=> Final c (I c) (k0_pay26 (movedOf I).fin)) := by
  set X := movedOf I with hX
  unfold Start
  rw [cc0_body_eq_skeleton]
  refine bind_step ?_
  rw [k0_part57_eq_skeleton]
  refine bind_step ?_
  rw [k0_part1_eq_skeleton]
  refine bind_step (dev_step ?_)
  iterate 5 refine bind_step (sig_at X (by decide) (by rfl) ?_)
  refine pure_step ?_
  refine bind_step ?_
  rw [k0_part2_eq_skeleton]
  iterate 6 refine bind_step (sig_at X (by decide) (by rfl) ?_)
  refine pure_step ?_
  refine bind_step ?_
  rw [k0_part3_eq_skeleton]
  iterate 6 refine bind_step (sig_at X (by decide) (by rfl) ?_)
  refine pure_step ?_
  refine bind_step ?_
  rw [k0_part4_eq_skeleton]
  iterate 6 refine bind_step (sig_at X (by decide) (by rfl) ?_)
  refine pure_step ?_
  refine bind_step ?_
  rw [k0_part5_eq_skeleton]
  iterate 6 refine bind_step (sig_at X (by decide) (by rfl) ?_)
  refine pure_step ?_
  refine bind_step ?_
  rw [k0_part6_eq_skeleton]
  iterate 2 refine bind_step (sig_at X (by decide) (by rfl) ?_)
  refine (to_barrier X).trans ?_
  refine bind_step (step_barrier X ((above_row c _).mono (by decide) |>.add (above_sum c _)) ?_)
  refine (to_send X).trans ?_
  refine bind_step (load_x (b := 0) (by decide) (by rfl) ?_)
  refine bind_step (load_idx (b := 0) (by decide) (by rfl) ?_)
  refine bind_step (load_w (n := 0) (by decide) (by rfl) ?_)
  refine pure_step ?_
  refine bind_step ?_
  rw [k0_part7_eq_skeleton]
  refine bind_step (load_w (n := 1) (by decide) (by rfl) ?_)
  refine bind_step (load_w (n := 2) (by decide) (by rfl) ?_)
  refine bind_step (load_w (n := 3) (by decide) (by rfl) ?_)
  refine bind_step (load_up (by rfl) fun _ => ?_)
  refine bind_step (store_block X (b := 0) (by rfl) (by rfl) (by exact fun p hp => stg_block I c (by decide) hp) ?_)
  refine (snd_at X (by decide) (by decide) (by rfl) (by intro _; rfl) (by rfl) (by exact k0_off2_eq c) (by rfl) (by exact k0_off1_eq c) ?_)
  refine pure_step ?_
  refine bind_step ?_
  rw [k0_part8_eq_skeleton]
  iterate 7 refine (snd_at X (by decide) (by decide) (by rfl) (by intro _; rfl) (by rfl) (by exact k0_off2_eq c) (by rfl) (by exact k0_off1_eq c) ?_)
  refine bind_step (load_x (b := 1) (by decide) (by rfl) ?_)
  refine bind_step (load_idx (b := 1) (by decide) (by rfl) ?_)
  refine pure_step ?_
  refine bind_step ?_
  rw [k0_part9_eq_skeleton]
  refine bind_step (load_w (n := 0) (by decide) (by rfl) ?_)
  refine bind_step (load_w (n := 1) (by decide) (by rfl) ?_)
  refine bind_step (load_w (n := 2) (by decide) (by rfl) ?_)
  refine pure_step ?_
  refine bind_step ?_
  rw [k0_part10_eq_skeleton]
  refine bind_step (load_w (n := 3) (by decide) (by rfl) ?_)
  refine bind_step (load_up (by rfl) fun _ => ?_)
  refine bind_step (store_block X (b := 1) (by rfl) (by rfl) (by exact fun p hp => (stg_block I c (by decide) hp).trans (congrFun (blk1 _ _ _ _ _ _ _).symm _)) ?_)
  iterate 6 refine (snd_at X (by decide) (by decide) (by rfl) (by intro _; rfl) (by rfl) (by exact k0_off2_eq c) (by rfl) (by exact k0_off1_eq c) ?_)
  refine pure_step ?_
  refine bind_step ?_
  rw [k0_part11_eq_skeleton]
  iterate 2 refine (snd_at X (by decide) (by decide) (by rfl) (by intro _; rfl) (by rfl) (by exact k0_off2_eq c) (by rfl) (by exact k0_off1_eq c) ?_)
  refine bind_step (load_x (b := 2) (by decide) (by rfl) ?_)
  refine bind_step (load_idx (b := 2) (by decide) (by rfl) ?_)
  refine bind_step (load_w (n := 0) (by decide) (by rfl) ?_)
  refine bind_step (load_w (n := 1) (by decide) (by rfl) ?_)
  refine pure_step ?_
  refine bind_step ?_
  rw [k0_part12_eq_skeleton]
  refine bind_step (load_w (n := 2) (by decide) (by rfl) ?_)
  refine bind_step (load_w (n := 3) (by decide) (by rfl) ?_)
  refine bind_step (load_up (by rfl) fun _ => ?_)
  refine bind_step (store_block X (b := 2) (by rfl) (by rfl) (by exact fun p hp => (stg_block I c (by decide) hp).trans (congrFun (blk2 _ _ _ _ _ _ _).symm _)) ?_)
  iterate 3 refine (snd_at X (by decide) (by decide) (by rfl) (by intro _; rfl) (by rfl) (by exact k0_off2_eq c) (by rfl) (by exact k0_off1_eq c) ?_)
  refine pure_step ?_
  refine bind_step ?_
  rw [k0_part13_eq_skeleton]
  iterate 5 refine (snd_at X (by decide) (by decide) (by rfl) (by intro _; rfl) (by rfl) (by exact k0_off2_eq c) (by rfl) (by exact k0_off1_eq c) ?_)
  refine bind_step (load_x (b := 3) (by decide) (by rfl) ?_)
  refine bind_step (load_idx (b := 3) (by decide) (by rfl) ?_)
  refine bind_step (load_w (n := 0) (by decide) (by rfl) ?_)
  refine pure_step ?_
  refine bind_step ?_
  rw [k0_part14_eq_skeleton]
  refine bind_step (load_w (n := 1) (by decide) (by rfl) ?_)
  refine bind_step (load_w (n := 2) (by decide) (by rfl) ?_)
  refine bind_step (load_w (n := 3) (by decide) (by rfl) ?_)
  refine pure_step ?_
  refine bind_step ?_
  rw [k0_part15_eq_skeleton]
  refine bind_step (load_up (by rfl) fun _ => ?_)
  refine bind_step (store_block X (b := 3) (by rfl) (by rfl) (by exact fun p hp => (stg_block I c (by decide) hp).trans (congrFun (blk3 _ _ _ _ _ _ _).symm _)) ?_)
  iterate 8 refine (snd_at X (by decide) (by decide) (by rfl) (by intro _; rfl) (by rfl) (by exact k0_off2_eq c) (by rfl) (by exact k0_off1_eq c) ?_)
  refine pure_step ?_
  refine bind_step ?_
  rw [k0_part16_eq_skeleton]
  refine (to_own X).trans ?_
  refine bind_step (load_own X (by exact k0_off65_eq c) ?_)
  refine bind_step (load_sum (by exact k0_off66_eq c) fun _ => ?_)
  refine bind_step (store_sum X (by exact k0_off66_eq c) (by exact own_sums X c) ?_)
  refine (to_land X).trans ?_
  iterate 2 refine bind_step (sum_at X (by decide) (above_row c _) (by rfl) ?_)
  refine pure_step ?_
  refine bind_step ?_
  rw [k0_part17_eq_skeleton]
  iterate 3 refine bind_step (sum_at X (by decide) (above_row c _) (by rfl) ?_)
  refine pure_step ?_
  refine bind_step ?_
  rw [k0_part18_eq_skeleton]
  iterate 3 refine bind_step (sum_at X (by decide) (above_row c _) (by rfl) ?_)
  refine pure_step ?_
  refine bind_step ?_
  rw [k0_part19_eq_skeleton]
  iterate 3 refine bind_step (sum_at X (by decide) (above_row c _) (by rfl) ?_)
  refine pure_step ?_
  refine bind_step ?_
  rw [k0_part20_eq_skeleton]
  iterate 4 refine bind_step (sum_at X (by decide) (above_row c _) (by rfl) ?_)
  refine pure_step ?_
  refine bind_step ?_
  rw [k0_part21_eq_skeleton]
  iterate 3 refine bind_step (sum_at X (by decide) (above_row c _) (by rfl) ?_)
  refine pure_step ?_
  refine bind_step ?_
  rw [k0_part22_eq_skeleton]
  iterate 3 refine bind_step (sum_at X (by decide) (above_row c _) (by rfl) ?_)
  refine pure_step ?_
  refine bind_step ?_
  rw [k0_part23_eq_skeleton]
  iterate 3 refine bind_step (sum_at X (by decide) (above_row c _) (by rfl) ?_)
  refine pure_step ?_
  refine bind_step ?_
  rw [k0_part24_eq_skeleton]
  iterate 3 refine bind_step (sum_at X (by decide) (above_row c _) (by rfl) ?_)
  refine pure_step ?_
  refine bind_step ?_
  rw [k0_part25_eq_skeleton]
  iterate 3 refine bind_step (sum_at X (by decide) (above_row c _) (by rfl) ?_)
  refine pure_step ?_
  refine bind_step ?_
  rw [k0_part26_eq_skeleton]
  refine bind_step (sum_at X (by decide) (above_row c _) (by rfl) ?_)
  refine (landed X).trans ?_
  refine bind_step (load_sums ?_)
  refine bind_step (load_row (by exact k0_off66_eq c) fun _ => ?_)
  refine bind_step (store_row X (by exact k0_off66_eq c) (by exact own_fin I c) ?_)
  refine (to_left X).trans ?_
  iterate 6 refine (lvs_at X (by decide) (above_row c _) (by rfl) (by rfl) (by rfl) ?_)
  refine pure_step ?_
  refine bind_step ?_
  rw [k0_part27_eq_skeleton]
  iterate 8 refine (lvs_at X (by decide) (above_row c _) (by rfl) (by rfl) (by rfl) ?_)
  refine pure_step ?_
  refine bind_step ?_
  rw [k0_part28_eq_skeleton]
  iterate 9 refine (lvs_at X (by decide) (above_row c _) (by rfl) (by rfl) (by rfl) ?_)
  refine pure_step ?_
  refine bind_step ?_
  rw [k0_part29_eq_skeleton]
  iterate 8 refine (lvs_at X (by decide) (above_row c _) (by rfl) (by rfl) (by rfl) ?_)
  refine pure_step ?_
  refine bind_step ?_
  rw [k0_part30_eq_skeleton]
  refine (lvs_at X (by decide) (above_row c _) (by rfl) (by rfl) (by rfl) ?_)
  refine (to_fin X).trans ?_
  iterate 2 refine bind_step (fin_at X (by decide) (by rfl) (by exact k0_off102_eq c) (by exact k0_off102_eq c) (by exact k0_off101_eq c) ?_)
  refine pure_step ?_
  refine bind_step ?_
  rw [k0_part31_eq_skeleton]
  iterate 3 refine bind_step (fin_at X (by decide) (by rfl) (by exact k0_off102_eq c) (by exact k0_off102_eq c) (by exact k0_off101_eq c) ?_)
  refine pure_step ?_
  refine bind_step ?_
  rw [k0_part32_eq_skeleton]
  iterate 3 refine bind_step (fin_at X (by decide) (by rfl) (by exact k0_off102_eq c) (by exact k0_off102_eq c) (by exact k0_off101_eq c) ?_)
  refine pure_step ?_
  refine bind_step ?_
  rw [k0_part33_eq_skeleton]
  iterate 3 refine bind_step (fin_at X (by decide) (by rfl) (by exact k0_off102_eq c) (by exact k0_off102_eq c) (by exact k0_off101_eq c) ?_)
  refine pure_step ?_
  refine bind_step ?_
  rw [k0_part34_eq_skeleton]
  iterate 3 refine bind_step (fin_at X (by decide) (by rfl) (by exact k0_off102_eq c) (by exact k0_off102_eq c) (by exact k0_off101_eq c) ?_)
  refine pure_step ?_
  refine bind_step ?_
  rw [k0_part35_eq_skeleton]
  iterate 3 refine bind_step (fin_at X (by decide) (by rfl) (by exact k0_off102_eq c) (by exact k0_off102_eq c) (by exact k0_off101_eq c) ?_)
  refine pure_step ?_
  refine bind_step ?_
  rw [k0_part36_eq_skeleton]
  iterate 2 refine bind_step (fin_at X (by decide) (by rfl) (by exact k0_off102_eq c) (by exact k0_off102_eq c) (by exact k0_off101_eq c) ?_)
  refine pure_step ?_
  refine bind_step ?_
  rw [k0_part37_eq_skeleton]
  iterate 3 refine bind_step (fin_at X (by decide) (by rfl) (by exact k0_off102_eq c) (by exact k0_off102_eq c) (by exact k0_off101_eq c) ?_)
  refine pure_step ?_
  refine bind_step ?_
  rw [k0_part38_eq_skeleton]
  iterate 3 refine bind_step (fin_at X (by decide) (by rfl) (by exact k0_off102_eq c) (by exact k0_off102_eq c) (by exact k0_off101_eq c) ?_)
  refine pure_step ?_
  refine bind_step ?_
  rw [k0_part39_eq_skeleton]
  iterate 3 refine bind_step (fin_at X (by decide) (by rfl) (by exact k0_off102_eq c) (by exact k0_off102_eq c) (by exact k0_off101_eq c) ?_)
  refine pure_step ?_
  refine bind_step ?_
  rw [k0_part40_eq_skeleton]
  iterate 3 refine bind_step (fin_at X (by decide) (by rfl) (by exact k0_off102_eq c) (by exact k0_off102_eq c) (by exact k0_off101_eq c) ?_)
  refine pure_step ?_
  refine bind_step ?_
  rw [k0_part41_eq_skeleton]
  refine (to_gather X).trans ?_
  iterate 3 refine bind_step (row_at X (by decide) Above.zero (by rfl) ?_)
  refine pure_step ?_
  refine bind_step ?_
  rw [k0_part42_eq_skeleton]
  iterate 3 refine bind_step (row_at X (by decide) Above.zero (by rfl) ?_)
  refine pure_step ?_
  refine bind_step ?_
  rw [k0_part43_eq_skeleton]
  iterate 3 refine bind_step (row_at X (by decide) Above.zero (by rfl) ?_)
  refine pure_step ?_
  refine bind_step ?_
  rw [k0_part44_eq_skeleton]
  iterate 4 refine bind_step (row_at X (by decide) Above.zero (by rfl) ?_)
  refine pure_step ?_
  refine bind_step ?_
  rw [k0_part45_eq_skeleton]
  iterate 3 refine bind_step (row_at X (by decide) Above.zero (by rfl) ?_)
  refine pure_step ?_
  refine bind_step ?_
  rw [k0_part46_eq_skeleton]
  iterate 3 refine bind_step (row_at X (by decide) Above.zero (by rfl) ?_)
  refine pure_step ?_
  refine bind_step ?_
  rw [k0_part47_eq_skeleton]
  iterate 3 refine bind_step (row_at X (by decide) Above.zero (by rfl) ?_)
  refine pure_step ?_
  refine bind_step ?_
  rw [k0_part48_eq_skeleton]
  iterate 3 refine bind_step (row_at X (by decide) Above.zero (by rfl) ?_)
  refine pure_step ?_
  refine bind_step ?_
  rw [k0_part49_eq_skeleton]
  iterate 3 refine bind_step (row_at X (by decide) Above.zero (by rfl) ?_)
  refine pure_step ?_
  refine bind_step ?_
  rw [k0_part50_eq_skeleton]
  iterate 3 refine bind_step (row_at X (by decide) Above.zero (by rfl) ?_)
  refine (gathered X).trans ?_
  refine bind_step (load_rows ?_)
  refine bind_step (load_out fun _ => ?_)
  refine bind_step (store_out ?_)
  refine pure_step ?_
  refine bind_step ?_
  rw [k0_part51_eq_skeleton]
  refine (to_out X).trans ?_
  iterate 5 refine bind_step (out_at X (by decide) Above.zero (by rfl) ?_)
  refine pure_step ?_
  refine bind_step ?_
  rw [k0_part52_eq_skeleton]
  iterate 5 refine bind_step (out_at X (by decide) Above.zero (by rfl) ?_)
  refine pure_step ?_
  refine bind_step ?_
  rw [k0_part53_eq_skeleton]
  iterate 5 refine bind_step (out_at X (by decide) Above.zero (by rfl) ?_)
  refine pure_step ?_
  refine bind_step ?_
  rw [k0_part54_eq_skeleton]
  iterate 5 refine bind_step (out_at X (by decide) Above.zero (by rfl) ?_)
  refine pure_step ?_
  refine bind_step ?_
  rw [k0_part55_eq_skeleton]
  iterate 5 refine bind_step (out_at X (by decide) Above.zero (by rfl) ?_)
  refine pure_step ?_
  refine bind_step ?_
  rw [k0_part56_eq_skeleton]
  iterate 5 refine bind_step (out_at X (by decide) Above.zero (by rfl) ?_)
  refine pure_step ?_
  refine bind_step (out_at X (by decide) Above.zero (by rfl) ?_)
  refine pure_step ?_
  refine pure_step ?_
  exact close_all X

end Cert.KernelIdeal.Dist
-- ==== Proof.Run.lean ====
/-
  The launch: the pipeline's proof data, its body's obligation, and the run of the whole program on all devices.
-/
module

public import proofs.«01_k».proof.Proof.Deal
public import proofs.«01_k».proof.Proof.Body
public import proofs.«01_k».proof.Proof.Gen.KernelIdeal.Points
public import Idealize.ShloMosaic.Lib.Pipeline.CollectiveSegs
public import Idealize.ShloMosaic.Lib.Quiescent

@[expose] public section

set_option maxRecDepth 16384

noncomputable section

namespace Cert.KernelIdeal.Dist

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The operands and the result -/

/-- The operands of device `c`'s body: its arrays. -/
def inpOf (c : Dev nD) : Inp F := ⟨m ((c : Thread nD τ).loc main_arg0), m ((c : Thread nD τ).loc main_arg2), m ((c : Thread nD τ).loc main_arg3)⟩

/-- What the exchange moves in this run. -/
abbrev moved : Moved F := movedOf (inpOf m)

/-- What every device ends with. -/
def outOf : Vec F S1024x1024 .f32 := k0_pay26 (moved m).fin

/-- What a device holds besides its windows when the body starts, -/
def Φ₀ (c : Dev nD) : sProp 𝕄 :=
  iprop(Begun (moved m) c ∗ (∃ f, stgPts (F := F) c Finset.univ f) ∗ (∃ f, sumPts (F := F) c Finset.univ f) ∗ (∃ f, rowPts (F := F) c fullShare Finset.univ f))
/-- and when it has ended. -/
def Φ₁ (c : Dev nD) : sProp 𝕄 :=
  iprop(semVal (barC c) 0 ∗ ((bigSep (Finset.univ : Finset (Dev nD)) fun t => semVal (sendC c t) 0)
      ∗ (bigSep (Finset.univ : Finset (Dev nD)) fun t => semVal (sumC c t) 0) ∗ (bigSep (Finset.univ : Finset (Dev nD)) fun t => semVal (rowC c t) 0))
    ∗ (∃ f, stgPts (F := F) c Finset.univ f) ∗ (∃ f, sumPts (F := F) c Finset.univ f) ∗ (∃ f, rowPts (F := F) c fullShare Finset.univ f))

/-- The pipeline's proof data: the inputs' staging buffers keep their blocks, the output's ends with the result. -/
def dats (_ : Fin 1) (c : Dev nD) : Dat τ (Elt F) Unit ℕ UU ℕ cfg0 c where
  A w := m ((cfg0.win w).arr.view.loc (c : Thread nD τ))
  after w _ := match w with
    | ⟨0, _⟩ => m ((c : Thread nD τ).loc main_arg0)
    | ⟨1, _⟩ => m ((c : Thread nD τ).loc main_arg1)
    | ⟨2, _⟩ => m ((c : Thread nD τ).loc main_arg2)
    | ⟨3, _⟩ => m ((c : Thread nD τ).loc main_arg3)
    | ⟨4, _⟩ => outOf m
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## A window over a whole array -/

/-- Reading such a window's block is reading the array. -/
theorem read_0 (t : Fin cfg0.N) (f : (main_arg0 : Ref sig .tc).ty.Contents (Elt F)) : ((cfg0.win 0).blk t).view.read (Elt F) f = f := by
  funext i; refine congrArg f (funext fun a => Fin.ext ?_)
  show 0 * _ + 1 * _ = _
  omega
/-- The second argument's window is the whole argument. -/
theorem read_1 (t : Fin cfg0.N) (f : (main_arg1 : Ref sig .tc).ty.Contents (Elt F)) : ((cfg0.win 1).blk t).view.read (Elt F) f = f := by
  funext i; refine congrArg f (funext fun a => Fin.ext ?_)
  show 0 * _ + 1 * _ = _
  omega
/-- The third argument's window is the whole argument. -/
theorem read_2 (t : Fin cfg0.N) (f : (main_arg2 : Ref sig .tc).ty.Contents (Elt F)) : ((cfg0.win 2).blk t).view.read (Elt F) f = f := by
  funext i; refine congrArg f (funext fun a => Fin.ext ?_)
  show 0 * _ + 1 * _ = _
  omega
/-- The fourth argument's window is the whole argument. -/
theorem read_3 (t : Fin cfg0.N) (f : (main_arg3 : Ref sig .tc).ty.Contents (Elt F)) : ((cfg0.win 3).blk t).view.read (Elt F) f = f := by
  funext i; refine congrArg f (funext fun a => Fin.ext ?_)
  show 0 * _ + 1 * _ = _
  omega
/-- The result's window is the whole result. -/
theorem read_4 (t : Fin cfg0.N) (f : (main_v1 : Ref sig .tc).ty.Contents (Elt F)) : ((cfg0.win 4).blk t).view.read (Elt F) f = f := by
  funext i; refine congrArg f (funext fun a => Fin.ext ?_)
  show 0 * _ + 1 * _ = _
  omega

/-- The first argument's window starts with the argument. -/
theorem before_0 (c : Dev nD) (t : Fin cfg0.N) (d) : (dats m 0 c).before 0 t d = m ((c : Thread nD τ).loc main_arg0) := by
  unfold Dat.before; rw [if_pos (fetch0_0 t)]; exact read_0 (F := F) t _
/-- The second argument's window starts with the argument. -/
theorem before_1 (c : Dev nD) (t : Fin cfg0.N) (d) : (dats m 0 c).before 1 t d = m ((c : Thread nD τ).loc main_arg1) := by
  unfold Dat.before; rw [if_pos (fetch0_1 t)]; exact read_1 (F := F) t _
/-- The third argument's window starts with the argument. -/
theorem before_2 (c : Dev nD) (t : Fin cfg0.N) (d) : (dats m 0 c).before 2 t d = m ((c : Thread nD τ).loc main_arg2) := by
  unfold Dat.before; rw [if_pos (fetch0_2 t)]; exact read_2 (F := F) t _
/-- The fourth argument's window starts with the argument. -/
theorem before_3 (c : Dev nD) (t : Fin cfg0.N) (d) : (dats m 0 c).before 3 t d = m ((c : Thread nD τ).loc main_arg3) := by
  unfold Dat.before; rw [if_pos (fetch0_3 t)]; exact read_3 (F := F) t _

/-! ## The body's obligation -/

/-- Owning a whole buffer with contents `X` is holding all its positions with those contents. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 5) t0_0 d)) ∗ (∃ d, stg c cc0_stg1_0 ((dats m 0 c).before (1 : Fin 5) t0_0 d))
    ∗ (∃ d, stg c cc0_stg2_0 ((dats m 0 c).before (2 : Fin 5) t0_0 d)) ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(Φ₁ (F := F) c ∗ (dats m 0 c).owesAt () t0_0.succ
    ∗ stg c cc0_stg0_0 (m ((c : Thread nD τ).loc main_arg0)) ∗ stg c cc0_stg1_0 (m ((c : Thread nD τ).loc main_arg1))
    ∗ stg c cc0_stg2_0 (m ((c : Thread nD τ).loc main_arg2)) ∗ stg c cc0_stg3_0 (m ((c : Thread nD τ).loc main_arg3))
    ∗ stg c cc0_stg4_0 (outOf m))

/-- What the pipeline hands the body is what it starts with, and the window it does not read. -/
theorem pre_start (c : Dev nD) : bodyPre m c ⊢ iprop(Start (moved m) c (inpOf m c) ∗ stg c cc0_stg1_0 (m ((c : Thread nD τ).loc main_arg1))) := by
  unfold bodyPre Φ₀
  simp only [before_0, before_1, before_2, before_3]
  unfold Dat.owesAt Pipeline.owesWithin
  rw [show (dats m 0 c).owed t0_0.castSucc = O₀ c from rfl]
  iintro ⟨⟨HB, ⟨%f0, Hs0⟩, ⟨%f1, Hs1⟩, ⟨%f2, Hs2⟩⟩, ⟨%W, %hW, HO⟩, ⟨%d0, %g0, %h0, H0⟩, ⟨%d1, H1⟩, ⟨%d2, %g2, %h2, H2⟩, ⟨%d3, %g3, %h3, H3⟩, ⟨%d4, %g4, %h4, H4⟩⟩
  subst h0 h2 h3
  isplitr [H1]
  · iapply (start_of (moved m) c (inpOf m c) f0 f1 f2)
    isplitl [HB]; · iexact HB
    isplitl [HO]; · unfold owesE; iexists W; iexact HO
    isplitl [H0 H2 H3]
    · unfold inPts inpOf
      isplitl [H0]; · iexact H0
      isplitl [H2]; · iexact H2
      iexact H3
    isplitl [H4]
    · iexists g4; unfold outPts; iexact H4
    isplitl [Hs0]; · iexact Hs0
    isplitl [Hs1] <;> iassumption
  iexact H1

/-- What the body ends with is what the pipeline takes back. -/
theorem final_post (c : Dev nD) :
    iprop(Final c (inpOf m c) (outOf m) ∗ stg c cc0_stg1_0 (m ((c : Thread nD τ).loc main_arg1))) ⊢ bodyPost m c := by
  unfold bodyPost Final Φ₁
  unfold Dat.owesAt Pipeline.owesWithin owesE inPts outPts inpOf
  rw [show (dats m 0 c).owed t0_0.succ = 0 from rfl]
  iintro ⟨⟨⟨%W, HO⟩, ⟨H0, H2, H3⟩, H4, Hb, Hs, Hu, Hr, Hs0, Hs1, Hs2⟩, H1⟩
  isplitl [Hb Hs Hu Hr Hs0 Hs1 Hs2]
  · isplitl [Hb]; · iexact Hb
    isplitl [Hs Hu Hr]
    · isplitl [Hs]; · iexact Hs
      isplitl [Hu] <;> iassumption
    isplitl [Hs0]; · iexact Hs0
    isplitl [Hs1] <;> iassumption
  isplitl [HO]
  · iexists W
    isplitr; · ipureintro; exact fun _ _ => Or.inl trivial
    iexact HO
  isplitl [H0]
  · iexists _; isplitr; · (ipureintro; rfl)
    iexact H0
  isplitl [H1]; · iexact H1
  isplitl [H2]
  · iexists _; isplitr; · (ipureintro; rfl)
    iexact H2
  isplitl [H3]
  · iexists _; isplitr; · (ipureintro; rfl)
    iexact H3
  iexists _; isplitr; · (ipureintro; rfl)
  iexact H4

/-- The body meets the launch's demand on every device. -/
theorem body_obligation (c : Dev nD) : BodyObligation (dats (F := F) m 0 c) (defs₀ (F := F)) 𝒱₀ () Set.univ := fun t => by
  rw [fin_N0 t]
  rw [bigSep_W0, bigSep_W0]
  simp only [owns_whole]
  show bodyPre m c ⊢ wp frame (wpE (defs₀ (F := F)) 𝒱₀ c none) Set.univ
    (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5) (fun _ => bodyPost m c)
  refine (pre_start m c).trans ?_
  refine (BI.sep_mono_l ((body (inpOf m) c).trans (wp_fupd frame (wpE (defs₀ (F := F)) 𝒱₀ c none) Set.univ _ _))).trans ?_
  exact (wp_frame_r frame (wpE (defs₀ (F := F)) 𝒱₀ c none) Set.univ).trans (wp_mono _ _ _ fun _ => final_post m c)

/-! ## The launch -/

/-- The body's semaphores are not the launch's own. -/
theorem ownSemFacts : Pipeline.OwnSemFacts cfg0.spec osem := by decide

/-- Every window is held in full. -/
theorem share_eq (c : Dev nD) (w : Fin cfg0.W) : (dats m 0 c).share w = fullShare := by unfold Dat.share; split <;> rfl

/-- What a device has at the start is what its body begins with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Dealt (moved m) c)
      ⊢ |={Set.univ}=> iprop(Begun (moved m) c ∗ emp) := by
  iintro ⟨-, HL, HC, -, HD⟩
  imodintro
  isplitl
  · iapply (begun (moved m) c)
    isplitl [HD]; · iexact HD
    isplitl [HL] <;> iassumption
  · iempintro

/-- The body's beginning is the launch's state before its only step. -/
theorem phi0_intro (c : Dev nD) :
    iprop(Begun (moved m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ stgPts sumPts rowPts
  iintro ⟨Hs, -, H0, H1, H2⟩
  isplitl [Hs]; · iexact Hs
  isplitl [H0]; · iexact H0
  isplitl [H1] <;> iassumption

/-- The body's semaphores at zero, by number. -/
theorem ownSems_eq (c : Dev nD) : (Pipeline.ownSems0 (Ix := Unit) (Name := ℕ) (U := UU) (Lvl := ℕ) (Val := Elt F) (τ := τ) osem c : sProp 𝕄)
    = iprop((bigSep (Finset.univ : Finset (Dev nD)) fun t => semVal (sendC c t) 0)
      ∗ (bigSep (Finset.univ : Finset (Dev nD)) fun t => semVal (sumC c t) 0) ∗ (bigSep (Finset.univ : Finset (Dev nD)) fun t => semVal (rowC c t) 0)) :=
  over_own c fun g => semVal g 0

/-- The semaphore outside the body is the barrier. -/
theorem unscoped_eq (c : Dev nD) : (unscopedSems0 c : sProp 𝕄) = semVal (barC c) 0 := by
  unfold unscopedSems0; rw [bigSep_eq_bigSepL_of_eq [SemLoc.reg barS] (by decide) (by decide)]; rfl

/-- The launch's state after its only step gives the semaphores back at zero. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems_eq, unscoped_eq]
  unfold Φ₁ stgPts sumPts rowPts
  iintro ⟨Hb, Hs, H0, H1, H2⟩
  isplitl [Hb]; · iexact Hb
  isplitl [Hs]; · iexact Hs
  isplitl [H0]; · iexact H0
  isplitl [H1] <;> iassumption

/-- The launch's own copies may be awaited before and after the body. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  have hl : lv ((c : Thread nD τ), SemLoc.dma q) () ≤ 0 := by
    show (if q.val < 37 then 0 else _) ≤ 0
    rw [if_pos (by omega)]
  rcases hO with rfl | rfl
  · exact mayWait_of_above c (.dma q) _ ((((above_row c _).mono (by decide)).add ((above_sum c _).mono (by decide))).add (above_bar _)) hl
  · exact mayWait_of_above c (.dma q) _ Above.zero hl

/-- Every wait of the launch is allowed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- The result's array after the run. -/
theorem out_array (c : Dev nD) : (dats m 0 c).arrAt 4 cfg0.N = outOf m := by
  have h := (dats m 0 c).arrAt_succ 4 t0_0
  rw [if_pos (flush0_4 t0_0)] at h
  exact h.trans ((read_4 (F := F) t0_0 _).symm.trans (View.read_write_univ (Val := Elt F) (v := ((cfg0.win 4).blk t0_0).view) _ _))

/-- At the compiled mesh, for any float values and from any memory: every weakly fair execution of the program on all
    32 devices ends, with the arguments' arrays unchanged, the result's array on every device the finished rows of all
    devices, and every semaphore at zero. -/
theorem run_main : θ_run defs (onTc (τ := τ) (main (F := F))) ⟨m, fun _ => 0, ρ⟩ (fun r => (∀ c : Dev nD,
      (r.2.mem ((c.tc : Thread nD τ).loc main_v1) = outOf m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := Deal (moved m)) (G' := Dealt (moved m)) (u₀ := u₀)
    (hu₀ := by
      unfold u₀
      iintro Hu
      ihave H := (ownU_pair _ _) $$ Hu
      icases H with ⟨HP, HX⟩
      imod (fund_deal (moved m)) $$ HX with HG
      imodintro
      isplitl [HP] <;> iassumption)
    (hglob := glob (moved m))
    (hA := fun _ _ => rfl) (hpf := fun _ k => k.elim0)
    (X := Begun (moved m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨((h c).1 4).trans (out_array m c), ((h c).1 0).trans ((dats m 0 c).arrAt_in 0 rfl _),
      ((h c).1 1).trans ((dats m 0 c).arrAt_in 1 rfl _), ((h c).1 2).trans ((dats m 0 c).arrAt_in 2 rfl _),
      ((h c).1 3).trans ((dats m 0 c).arrAt_in 3 rfl _)⟩, sem_eq_zero hs fun c => (h c).2.2⟩)

end Cert.KernelIdeal.Dist

end
-- ==== Proof.Value.lean ====
/-
  What the program computes, at the ideal values: every entry of the result is the token's row times the column of the
  weights of the token's expert, or zero where the expert's number is not one of the 128.
-/
module

public import proofs.«01_k».proof.Proof.Memory
public import Idealize.ShloMosaic.Lib.MatmulPlain
public import Idealize.ShloMosaic.Lib.Layout

@[expose] public section

set_option maxRecDepth 16384

noncomputable section

namespace Cert.KernelIdeal.Dist

open Cert.KernelIdeal Cert.KernelIdeal.Gen
open Idealize.ShloMosaic
open Idealize.ShloMosaic.TcCoe
open Idealize.ShloMosaic.ValueIdx
open scoped BigOperators

/-! ## Numbers -/

/-- The number of the device's `j`-th expert, as the program computes it. -/
theorem expert_word (c : Dev nD) : ∀ j : Fin 4,
    Scalar.addi (Scalar.muli (myWord c) 4#32) (BitVec.ofNat 32 j.val) = BitVec.ofNat 32 (4 * c.val + j.val) := by
  revert c; decide

/-- Whether two numbers agree, as a float. -/
theorem mask_apply (a b : BitVec 32) :
    (FloatOps.sitofp (F := Ideal) .f32 ((IntOp.cmpi .eq a b).setWidth 32) : EReal) = if a = b then 1 else 0 := by
  show ((((BitVec.ofBool (a == b)).setWidth 32).toInt : ℝ) : EReal) = _
  by_cases h : a = b
  · subst h; simp
  · rw [if_neg h, show (a == b) = false from beq_eq_false_iff_ne.mpr h]
    simp

/-! ## One device -/

/-- The masked product read at an entry: the row times the column, or zero where the token's expert is another. -/
theorem masked_apply (x : FVec Ideal S256x512 .f32) (k : IVec S256x1 32) (e : BitVec 32) (w : Vec Ideal S1x512x1024 .f32) (r : Fin 256) (f : Fin 1024) :
    matmul dot_S256x512_S512x1024_S256x1024_1_0_0_1_n_n none
        (mulf x (broadcastTo S256x512 (sitofp .f32 (extui 32 (cmpi .eq k (broadcast S256x1 e)) natLt_1_32)) broadcasts_S256x1_S256x512))
        (shapeCast S512x1024 w shapeCasts_S1x512x1024_S512x1024 : FVec Ideal S512x1024 .f32) (constant S256x1024 .f32 0x00000000#32) (ix2 r f)
      = if k (ix2 r (0 : Fin 1)) = e then ∑ d : Fin 512, (x (ix2 r d) : EReal) * w (ix3 (0 : Fin 1) d f) else (0 : EReal) := by
  refine (Ideal.matmul_plain_apply (M := 256) (K := 512) (N := 1024) none _ _ _ r f).trans ?_
  have h0 : ((constant S256x1024 .f32 0x00000000#32 : FVec Ideal S256x1024 .f32) (ix2 r f) : EReal) = 0 := Ideal.ofBits_zero_f32
  have hm : ∀ d : Fin 512, (broadcastTo S256x512 (sitofp .f32 (extui 32 (cmpi .eq k (broadcast S256x1 e)) natLt_1_32)) broadcasts_S256x1_S256x512 : FVec Ideal S256x512 .f32) (ix2 r d)
      = if k (ix2 r (0 : Fin 1)) = e then (1 : EReal) else 0 := fun d => by
    refine Eq.trans ?_ (mask_apply (k (ix2 r (0 : Fin 1))) e)
    show FloatOps.sitofp (F := Ideal) .f32 ((IntOp.cmpi .eq (k _) e).setWidth 32) = _
    congr 4
    funext a; fin_cases a <;> rfl
  rw [h0, zero_add]
  split
  · refine Finset.sum_congr rfl fun d _ => ?_
    refine congrArg₂ (fun a b : EReal => a * b) ?_ (shapeCast_1ab_ab_apply (a := 512) (b := 1024) w shapeCasts_S1x512x1024_S512x1024 d f)
    show (x (ix2 r d) : EReal) * _ = _
    rw [hm, if_pos (by assumption), mul_one]
  · refine Finset.sum_eq_zero fun d _ => ?_
    show ((x (ix2 r d) : EReal) * _) * _ = _
    rw [hm, if_neg (by assumption), mul_zero, zero_mul]

/-- What a device's four experts contribute to an entry of the result. -/
def part (c : Dev nD) (I : Inp Ideal) (i : Fin 1024) (f : Fin 1024) : EReal :=
  ∑ j : Fin 4, if I.idx (ix2 i (0 : Fin 1)) = BitVec.ofNat 32 (4 * c.val + j.val) then ∑ d : Fin 512, (I.x (ix2 i d) : EReal) * I.w (ix3 j d f) else (0 : EReal)

/-- A block of what a device stages, read at an entry. -/
theorem blkVal_apply (c : Dev nD) (I : Inp Ideal) (b : ℕ) (hb : b < 4) (r : Fin 256) (f : Fin 1024) :
    blkVal c I b hb (ix2 r f) = part c I ⟨256 * b + r.val, by have := r.isLt; omega⟩ f := by
  unfold blkVal k0_pay5 k0_pay3 k0_pay4 k0_pay1 k0_pay2
  simp only [shapeCast_self]
  show (((((Ideal.ofBits .f32 0x00000000#32 : EReal) + _) + _) + _) + _) = _
  rw [masked_apply, masked_apply, masked_apply, masked_apply]
  have h0 := expert_word c 0; have h1 := expert_word c 1; have h2 := expert_word c 2; have h3 := expert_word c 3
  unfold part
  rw [Fin.sum_univ_four, ← h0, ← h1, ← h2, ← h3, Ideal.ofBits_zero_f32, zero_add]
  rfl

/-- What a device stages, read at an entry. -/
theorem stgOf_apply (c : Dev nD) (I : Inp Ideal) (i : Fin 1024) (f : Fin 1024) : stgOf c I (ix2 i f) = part c I i f := by
  unfold stgOf
  refine (blkVal_apply c I (i.val / 256) _ ⟨i.val % 256, _⟩ f).trans ?_
  congr 1
  exact Fin.ext (Nat.div_add_mod i.val 256)

/-! ## All devices -/

/-- A finished entry is the sum of the entries staged for it on all devices. -/
theorem finOf_apply (stg : Dev nD → StgT Ideal) (p : Fin 32) (r : Fin 32) (f : Fin 1024) :
    (finOf stg (ix3 p r f) : EReal)
      = ∑ c : Fin 32, (show EReal from stg c (ix2 (⟨32 * p.val + r.val, by have := p.isLt; have := r.isLt; omega⟩ : Fin 1024) f)) := by
  unfold finOf k0_pay25
  simp only [shapeCast_self]
  refine (shapeCast_ab_1ab_apply (a := 32) (b := 1024) _ shapeCasts_S32x1024_S1x32x1024 (0 : Fin 1) r f).trans ?_
  exact Ideal.multiReduction_add_single (φ := .f32) _ 0x00000000#32 reduces_S32x32x1024_S32x1024 (.inl rfl) rfl (ix2 r f)

/-- The result read at an entry. -/
theorem out_apply (v : SlotT Ideal) (i f : Fin 1024) :
    k0_pay26 v (ix2 i f) = v (ix3 (⟨i.val / 32, by have := i.isLt; omega⟩ : Fin 32) (⟨i.val % 32, Nat.mod_lt _ (by decide)⟩ : Fin 32) f) := by
  unfold k0_pay26
  refine shapeCast_apply (s := S32x32x1024) (t := S1024x1024) v shapeCasts_S32x32x1024_S1024x1024 _ _ ?_
  rw [Shape.rowMajor_val_three, Shape.rowMajor_val_two]
  show ((i.val / 32) * 32 + i.val % 32) * 1024 + f.val = i.val * 1024 + f.val
  omega

/-- What the problem asks for at an entry. -/
def want (x : Vec Ideal S1024x512 .f32) (idx : Vec Ideal S1024x1 .i32) (w : (⟨3, ![128, 512, 1024]⟩ : Shape).Idx → EReal) (i f : Fin 1024) : EReal :=
  if h : (idx (ix2 i (0 : Fin 1)) : BitVec 32).toNat < 128 then ∑ d : Fin 512, (x (ix2 i d) : EReal) * w (ix3 (⟨(idx (ix2 i (0 : Fin 1)) : BitVec 32).toNat, h⟩ : Fin 128) d f) else 0

/-- One expert of the 128 is the token's, or none is. -/
theorem pick (k : BitVec 32) (g : Fin 128 → EReal) :
    (∑ c : Fin 32, ∑ j : Fin 4, if k = BitVec.ofNat 32 (4 * c.val + j.val) then g ⟨4 * c.val + j.val, by have := c.isLt; have := j.isLt; omega⟩ else 0)
      = if h : k.toNat < 128 then g ⟨k.toNat, h⟩ else 0 := by
  have hk : ∀ n < 128, (k = BitVec.ofNat 32 n ↔ k.toNat = n) := fun n hn =>
    ⟨fun h => by rw [h, BitVec.toNat_ofNat]; omega, fun h => by rw [← h, BitVec.ofNat_toNat, BitVec.setWidth_eq]⟩
  rw [← Fintype.sum_prod_type', ← Equiv.sum_comp (finProdFinEquiv (m := 32) (n := 4)).symm]
  refine (Finset.sum_congr rfl fun e _ => ?_).trans (?_ : (∑ e : Fin (32 * 4), if k.toNat = e.val then g ⟨e.val, e.isLt⟩ else 0) = _)
  · have he : 4 * ((finProdFinEquiv (m := 32) (n := 4)).symm e).1.val + ((finProdFinEquiv (m := 32) (n := 4)).symm e).2.val = e.val := by
      show 4 * (e.val / 4) + e.val % 4 = e.val
      omega
    simp only [he]
    exact if_congr (hk _ e.isLt) rfl rfl
  · split
    · rename_i h
      rw [Finset.sum_eq_single (⟨k.toNat, h⟩ : Fin (32 * 4))]
      · rw [if_pos rfl]
      · intro b _ hb
        rw [if_neg fun e => hb (Fin.ext e.symm)]
      · intro h; exact absurd (Finset.mem_univ _) h
    · rename_i h
      refine Finset.sum_eq_zero fun e _ => if_neg fun he => h (by rw [he]; exact e.isLt)

/-- With the same tokens on all devices and the experts four to a device, the result is what the problem asks for. -/
theorem value (I : Dev nD → Inp Ideal) (x : Vec Ideal S1024x512 .f32) (idx : Vec Ideal S1024x1 .i32)
    (w : (⟨3, ![128, 512, 1024]⟩ : Shape).Idx → EReal)
    (hx : ∀ c, (I c).x = x) (hi : ∀ c, (I c).idx = idx)
    (hw : ∀ c : Dev nD, (I c).w = Layout.block ⟨3, ![4, 512, 1024]⟩ ⟨3, ![128, 512, 1024]⟩ 0 32 c w) (i f : Fin 1024) :
    (k0_pay26 (movedOf I).fin (ix2 i f) : EReal) = want x idx w i f := by
  rw [out_apply]
  refine (finOf_apply (fun c => stgOf c (I c)) _ _ _).trans ?_
  have hi' : (⟨32 * (i.val / 32) + i.val % 32, by have := i.isLt; omega⟩ : Fin 1024) = i := Fin.ext (Nat.div_add_mod i.val 32)
  refine Eq.trans (α := EReal) ?_ (pick (idx (ix2 i (0 : Fin 1))) fun e => ∑ d : Fin 512, (x (ix2 i d) : EReal) * w (ix3 e d f))
  refine Finset.sum_congr (M := EReal) rfl fun c _ => ?_
  refine (congrArg (fun n : Fin 1024 => (show EReal from stgOf c (I c) (ix2 n f))) hi').trans ?_
  refine (stgOf_apply c (I c) i f).trans ?_
  unfold part
  rw [hx c, hi c, hw c]
  refine Finset.sum_congr (M := EReal) rfl fun j _ => ?_
  congr 1
  refine Finset.sum_congr (M := EReal) rfl fun d _ => ?_
  refine congrArg (fun a : EReal => (x (ix2 i d) : EReal) * a) ?_
  show w _ = w _
  congr 1
  funext a
  refine Fin.ext ?_
  match a with
  | ⟨0, _⟩ => show c.val * 4 + j.val = 4 * c.val + j.val; omega
  | ⟨1, _⟩ => rfl
  | ⟨2, _⟩ => rfl

end Cert.KernelIdeal.Dist

end
-- ==== Proof.Mathematics.lean ====
/-
  What the reference computes, at the ideal values, read at an entry.
-/
module

public import proofs.«01_k».proof.Proof.Gen.ReferenceIdeal
public import Idealize.ShloMosaic.Lib.ValueLayout
public import Idealize.ShloMosaic.PureOps.Ideal.Laws

@[expose] public section

set_option maxRecDepth 16384

noncomputable section

namespace Cert.ReferenceIdeal.Math

open Cert.ReferenceIdeal
open Cert.ReferenceIdeal.Facts₀
open Idealize.ShloMosaic
open Idealize.ShloMosaic.ValueIdx
open scoped BigOperators

/-- The experts' numbers as the column the lookup reads. -/
def keys (idx : IVec S1024x1 32) : IVec S1024x1 32 :=
  broadcastInDim S1024x1 ![0] bcast_S1024_S1024x1_0 (shapeCast S1024 idx shapeCasts_S1024x1_S1024)

/-- Which tokens' numbers name an expert. -/
def valid (idx : IVec S1024x1 32) : IVec S1024 1 :=
  Host.reduce IntOp.andi
    (andi (cmpi .sge (keys idx) (broadcastInDim S1024x1 ![] bcast_S_S1024x1 (constantI S_ 32 0#32)))
      (cmpi .sle (keys idx) (broadcastInDim S1024x1 ![0, 1] bcast_S1x1_S1024x1_0_1 (broadcastInDim S1x1 ![1] bcast_S1_S1x1_1 (constantI S1 32 127#32)))))
    (constantI S_ 1 1#1) reducesTo_S1024x1_S1024_d1 h_S_

/-- Every token's weights: its expert's, or zero. -/
def weights (idx : IVec S1024x1 32) (w : FVec Ideal S128x512x1024 .f32) : FVec Ideal S1024x512x1024 .f32 :=
  select (broadcastInDim S1024x512x1024 ![0] bcast_S1024_S1024x512x1024_0 (valid idx))
    (Host.gather gather_S128x512x1024_S1024x1_S1024x512x1024_12_0_n_n_0_1_15121024 w (keys idx))
    (broadcastInDim S1024x512x1024 ![] bcast_S_S1024x512x1024 (constant S_ .f32 0x00000000#32))

/-- The reference's result. -/
def result (x : FVec Ideal S1024x512 .f32) (idx : IVec S1024x1 32) (w : FVec Ideal S128x512x1024 .f32) : FVec Ideal S1024x1024 .f32 :=
  Host.dotGeneral dot_S1024x512_S1024x512x1024_S1024x1024_1_1_n_2_0_0 none x (weights idx w)

/-- A token's number, looked up. -/
theorem keys_apply (idx : IVec S1024x1 32) (i : Fin 1024) : keys idx (ix2 i (0 : Fin 1)) = idx (ix2 i (0 : Fin 1)) := by
  refine (shapeCast_apply (s := S1024x1) (t := S1024) idx shapeCasts_S1024x1_S1024 _ (ix2 i (0 : Fin 1)) ?_)
  rw [Shape.rowMajor_val_two, Shape.rowMajor_val_one]
  show i.val * 1 + 0 = i.val
  omega

/-- The column of numbers is the argument itself. -/
theorem keys_eq (idx : IVec S1024x1 32) : keys idx = idx := by
  funext j
  have hj : j = ix2 (⟨(j 0).val, (j 0).isLt⟩ : Fin 1024) (0 : Fin 1) := by
    funext a
    refine Fin.ext ?_
    match a with
    | ⟨0, _⟩ => rfl
    | ⟨1, h⟩ =>
      have h1 : (j ⟨1, h⟩).val < 1 := (j ⟨1, h⟩).isLt
      show (j ⟨1, h⟩).val = 0
      omega
  rw [hj]
  exact keys_apply idx _

/-- A number is valid when it is at least zero and at most 127. -/
theorem valid_apply (idx : IVec S1024x1 32) (i : Fin 1024) :
    valid idx (ix1 i) = IntOp.andi (IntOp.cmpi .sge (idx (ix2 i (0 : Fin 1))) 0#32) (IntOp.cmpi .sle (idx (ix2 i (0 : Fin 1))) 127#32) := by
  have hr : S1024x1.Reduces [1] S1024 := by decide
  unfold valid
  rw [Host.reduce_eq_fold_single IntOp.andi _ _ reducesTo_S1024x1_S1024_d1 hr h_S_ (ix1 i)]
  have hl : hr.lift (ix1 i) (0 : Fin 1) = ix2 i (0 : Fin 1) := by
    funext a
    match a with
    | ⟨0, _⟩ => rfl
    | ⟨1, _⟩ => rfl
  refine (Finset.fold_singleton (op := IntOp.andi) (b := 1#1) (a := (0 : Fin 1)) (f := _ ∘ hr.lift (ix1 i))).trans ?_
  show IntOp.andi (IntOp.andi (IntOp.cmpi .sge (keys idx (hr.lift (ix1 i) (0 : Fin 1))) 0#32) (IntOp.cmpi .sle (keys idx (hr.lift (ix1 i) (0 : Fin 1))) 127#32)) 1#1 = _
  rw [hl, keys_apply]
  show (_ &&& 1#1 : BitVec 1) = _
  exact BitVec.and_allOnes (w := 1)

/-- A number names an expert when it is at least 0 and at most 127. -/
theorem in_range (k : BitVec 32) : IntOp.andi (IntOp.cmpi .sge k 0#32) (IntOp.cmpi .sle k 127#32) = if k.toNat < 128 then 1#1 else 0#1 := by
  have h : (BitVec.sle 0#32 k && BitVec.sle k 127#32) = decide (k.toNat < 128) := by
    rw [BitVec.sle_eq_decide, BitVec.sle_eq_decide, ← Bool.decide_and]
    refine decide_eq_decide.mpr ?_
    have := k.isLt
    rw [BitVec.toInt_eq_toNat_cond k, show (0#32 : BitVec 32).toInt = 0 from rfl, show (127#32 : BitVec 32).toInt = 127 from rfl]
    split <;> omega
  show (BitVec.ofBool (BitVec.sle 0#32 k) &&& BitVec.ofBool (BitVec.sle k 127#32) : BitVec 1) = _
  rw [BitVec.ofBool_and_ofBool, h]
  by_cases hk : k.toNat < 128 <;> simp [hk]

/-- The lookup reads the expert whose number is the token's, clamped to the range. -/
theorem gather_apply (idx : IVec S1024x1 32) (w : FVec Ideal S128x512x1024 .f32) (i : Fin 1024) (d : Fin 512) (f : Fin 1024) :
    Host.gather gather_S128x512x1024_S1024x1_S1024x512x1024_12_0_n_n_0_1_15121024 w idx (ix3 i d f)
      = w (ix3 (⟨min (idx (ix2 i (0 : Fin 1))).toInt.toNat 127, by omega⟩ : Fin 128) d f) := by
  unfold Host.gather
  congr 1
  funext a
  apply Fin.ext
  match a with
  | ⟨0, _⟩ =>
    show min (idx _).toInt.toNat (128 - 1) + 0 + 0 = min (idx (ix2 i (0 : Fin 1))).toInt.toNat 127
    rw [Nat.add_zero]
    refine congrArg (fun q => min (idx q).toInt.toNat 127) (funext fun b => Fin.ext ?_)
    match b with
    | ⟨0, _⟩ => rfl
    | ⟨1, _⟩ => rfl
  | ⟨1, _⟩ => show 0 + 0 + d.val = d.val; omega
  | ⟨2, _⟩ => show 0 + 0 + f.val = f.val; omega

/-- A token's matrix is its expert's, or zero when its number names none. -/
theorem weights_apply (idx : IVec S1024x1 32) (w : FVec Ideal S128x512x1024 .f32) (i : Fin 1024) (d : Fin 512) (f : Fin 1024) :
    (weights idx w (ix3 i d f) : EReal) = if h : (idx (ix2 i (0 : Fin 1))).toNat < 128 then w (ix3 (⟨(idx (ix2 i (0 : Fin 1))).toNat, h⟩ : Fin 128) d f) else (0 : EReal) := by
  have hz : (broadcastInDim S1024x512x1024 ![] bcast_S_S1024x512x1024 (constant S_ .f32 0x00000000#32 : FVec Ideal S_ .f32) (ix3 i d f) : EReal) = 0 := Ideal.ofBits_zero_f32
  have hb : broadcastInDim S1024x512x1024 ![0] bcast_S1024_S1024x512x1024_0 (valid idx) (ix3 i d f) = valid idx (ix1 i) := by
    show valid idx _ = _
    refine congrArg (valid idx) (funext fun a => ?_)
    match a with
    | ⟨0, _⟩ => rfl
  unfold weights select
  rw [hb, valid_apply, in_range, hz, keys_eq, gather_apply]
  split
  · rename_i h
    have e : min (idx (ix2 i (0 : Fin 1))).toInt.toNat 127 = (idx (ix2 i (0 : Fin 1))).toNat := by
      rw [BitVec.toInt_eq_toNat_cond]
      split <;> omega
    simp only [e]
    rfl
  · rename_i h
    rfl

/-- The reference's result at an entry. -/
theorem result_apply (x : FVec Ideal S1024x512 .f32) (idx : IVec S1024x1 32) (w : FVec Ideal S128x512x1024 .f32) (i f : Fin 1024) :
    (result x idx w (ix2 i f) : EReal)
      = if h : (idx (ix2 i (0 : Fin 1))).toNat < 128 then ∑ d : Fin 512, (x (ix2 i d) : EReal) * w (ix3 (⟨(idx (ix2 i (0 : Fin 1))).toNat, h⟩ : Fin 128) d f) else (0 : EReal) := by
  have h : (result x idx w (ix2 i f) : EReal) = ∑ d : Fin 512, (x (ix2 i d) : EReal) * weights idx w (ix3 i d f) := by
    unfold result
    refine (Ideal.dotGeneral_apply dot_S1024x512_S1024x512x1024_S1024x1024_1_1_n_2_0_0 none _ x (weights idx w) (ix2 i f)).trans ?_
    rw [← Equiv.sum_comp (contrEquiv1 dot_S1024x512_S1024x512x1024_S1024x1024_1_1_n_2_0_0 512 rfl rfl).symm]
    refine Finset.sum_congr rfl fun k _ => ?_
    have hk := contrEquiv1_symm_val dot_S1024x512_S1024x512x1024_S1024x1024_1_1_n_2_0_0 512 rfl rfl k
    refine congrArg₂ (fun a b : EReal => a * b) ?_ ?_
    · refine congrArg x (funext fun a => Fin.ext ?_)
      match a with
      | ⟨0, _⟩ => rfl
      | ⟨1, _⟩ => exact hk
    · refine congrArg (weights idx w) (funext fun a => Fin.ext ?_)
      match a with
      | ⟨0, _⟩ => rfl
      | ⟨1, _⟩ => exact hk
      | ⟨2, _⟩ => rfl
  rw [h]
  simp only [weights_apply]
  split
  · rfl
  · exact Finset.sum_eq_zero fun d _ => mul_zero _

end Cert.ReferenceIdeal.Math

end
-- ==== Proof.Agree.lean ====
/-
  The program and the reference agree: every device's result is the reference's.
-/
module

public import proofs.«01_k».proof.Defs
public import proofs.«01_k».proof.Proof.Run
public import proofs.«01_k».proof.Proof.Value
public import proofs.«01_k».proof.Proof.Mathematics
public import proofs.«01_k».proof.Proof.Gen.ReferenceIdeal.Run

@[expose] public section

set_option maxRecDepth 16384

noncomputable section

namespace Cert.Agree

open Idealize.ShloMosaic Idealize.ShloMosaic.ValueIdx Idealize.SL.Sem
open scoped BigOperators

/-- The two sides at an entry. -/
theorem entry (I : Dev Cert.KernelIdeal.nD → Cert.KernelIdeal.Dist.Inp Ideal) (x : Vec Ideal Cert.KernelIdeal.S1024x512 .f32)
    (idx : Vec Ideal Cert.KernelIdeal.S1024x1 .i32) (w : (⟨3, ![128, 512, 1024]⟩ : Shape).Idx → EReal)
    (hx : ∀ c, (I c).x = x) (hi : ∀ c, (I c).idx = idx)
    (hw : ∀ c : Dev Cert.KernelIdeal.nD, (I c).w = Layout.block ⟨3, ![4, 512, 1024]⟩ ⟨3, ![128, 512, 1024]⟩ 0 32 c w) :
    (Cert.KernelIdeal.Gen.k0_pay26 (Cert.KernelIdeal.Dist.movedOf I).fin : (⟨2, ![1024, 1024]⟩ : Shape).Idx → EReal)
      = Cert.ReferenceIdeal.Math.result x idx w := by
  funext j
  have hj : j = ix2 (⟨(j 0).val, (j 0).isLt⟩ : Fin 1024) (⟨(j 1).val, (j 1).isLt⟩ : Fin 1024) := by
    funext a
    match a with
    | ⟨0, _⟩ => rfl
    | ⟨1, _⟩ => rfl
  rw [hj]
  exact (Cert.KernelIdeal.Dist.value I x idx w hx hi hw _ _).trans (Cert.ReferenceIdeal.Math.result_apply x idx w _ _).symm

/-- The run of the ideal program keeps the arguments and leaves every counter at zero. -/
theorem frame_ideal : Cert.quiescent_KernelIdeal := fun m ρ _ =>
  (θ_run Cert.KernelIdeal.defs _ _).mono (fun _ h => ⟨fun c => (h.1 c).2, h.2⟩) (Cert.KernelIdeal.Dist.run_main (F := Ideal) m ρ)

/-- The run of the reference keeps the arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On every device the program ends with the reference's result. -/
theorem agree : Cert.algebraic_KernelIdeal_ReferenceIdeal := by
  intro m ρ m' ρ' _ h
  refine ⟨Cert.ReferenceIdeal.Math.result
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun _ k c => ⟨(k.1 c).1.trans ?_, (k.1 c).2⟩) (Cert.KernelIdeal.Dist.run_main (F := Ideal) m ρ)
    exact entry (Cert.KernelIdeal.Dist.inpOf m) _ _ _ (fun c => (h c).1) (fun c => (h c).2.2.1) (fun c => (h c).2.2.2)
  · exact (θ_run Cert.ReferenceIdeal.defs _ _).mono (fun _ k => k 0) (Cert.ReferenceIdeal.Value.run (F := Ideal) m' ρ')

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Twin.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The run of the compiled program keeps the arguments and leaves every counter at zero. -/
theorem frame_kernel : Cert.quiescent_Kernel := fun m ρ _ =>
  (θ_run Cert.Kernel.defs _ _).mono (fun _ h => ⟨fun c => (h.1 c).2, h.2⟩) (Cert.Kernel.Dist.run_main (F := Bits) m ρ)

/-- All five claims. -/
theorem claim : Cert.Claim := ⟨Cert.Kernel.Gen.facts, Cert.KernelIdeal.Gen.facts, Cert.ReferenceIdeal.Gen.facts,
  frame_kernel, Cert.Agree.frame_ideal, Cert.Agree.frame_reference, trivial, Cert.Agree.agree⟩

end Cert.Proof

end
